-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S2048x2048 : Shape := ⟨2, ![2048, 2048]⟩
abbrev S2048x500 : Shape := ⟨2, ![2048, 500]⟩
abbrev S500 : Shape := ⟨1, ![500]⟩
abbrev S128x128 : Shape := ⟨2, ![128, 128]⟩
abbrev S2x256 : Shape := ⟨2, ![2, 256]⟩
abbrev S2 : Shape := ⟨1, ![2]⟩
abbrev S2048x256 : Shape := ⟨2, ![2048, 256]⟩
abbrev S500x2048 : Shape := ⟨2, ![500, 2048]⟩
abbrev S1x500x2048 : Shape := ⟨3, ![1, 500, 2048]⟩
abbrev S2x500x2048 : Shape := ⟨3, ![2, 500, 2048]⟩
abbrev S1x500 : Shape := ⟨2, ![1, 500]⟩
abbrev S2x1 : Shape := ⟨2, ![2, 1]⟩
abbrev S2x2048 : Shape := ⟨2, ![2, 2048]⟩
abbrev S1x2x2048 : Shape := ⟨3, ![1, 2, 2048]⟩
abbrev S256x500 : Shape := ⟨2, ![256, 500]⟩
abbrev S256x2048 : Shape := ⟨2, ![256, 2048]⟩
abbrev S2x128 : Shape := ⟨2, ![2, 128]⟩
abbrev S2048 : Shape := ⟨1, ![2048]⟩
abbrev S1x2048 : Shape := ⟨2, ![1, 2048]⟩

abbrev nBuf : Space → Nat
  | .hbm => 69
  | .vmem => 120
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x500, .f32⟩
  | .hbm, ⟨9, _⟩ => ⟨S2048x500, .f32⟩
  | .hbm, ⟨10, _⟩ => ⟨S500, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S2x256, .f32⟩
  | .hbm, ⟨17, _⟩ => ⟨S2, .f32⟩
  | .hbm, ⟨18, _⟩ => ⟨S2048x2048, .bf16⟩
  | .hbm, ⟨19, _⟩ => ⟨S2048x2048, .bf16⟩
  | .hbm, ⟨20, _⟩ => ⟨S2048x256, .f32⟩
  | .hbm, ⟨21, _⟩ => ⟨S2048x256, .f32⟩
  | .hbm, ⟨22, _⟩ => ⟨S2048x128, .f32⟩
  | .hbm, ⟨23, _⟩ => ⟨S2048x128, .f32⟩
  | .hbm, ⟨24, _⟩ => ⟨S2048x2048, .bf16⟩
  | .hbm, ⟨25, _⟩ => ⟨S2048x2048, .bf16⟩
  | .hbm, ⟨26, _⟩ => ⟨S2048x256, .f32⟩
  | .hbm, ⟨27, _⟩ => ⟨S2048x256, .f32⟩
  | .hbm, ⟨28, _⟩ => ⟨S2048x128, .f32⟩
  | .hbm, ⟨29, _⟩ => ⟨S2048x128, .f32⟩
  | .hbm, ⟨30, _⟩ => ⟨S2048x2048, .bf16⟩
  | .hbm, ⟨31, _⟩ => ⟨S2048x2048, .bf16⟩
  | .hbm, ⟨32, _⟩ => ⟨S2048x256, .f32⟩
  | .hbm, ⟨33, _⟩ => ⟨S2048x256, .f32⟩
  | .hbm, ⟨34, _⟩ => ⟨S2048x128, .f32⟩
  | .hbm, ⟨35, _⟩ => ⟨S2048x128, .f32⟩
  | .hbm, ⟨36, _⟩ => ⟨S500x2048, .f32⟩
  | .hbm, ⟨37, _⟩ => ⟨S500x2048, .bf16⟩
  | .hbm, ⟨38, _⟩ => ⟨S500x2048, .f32⟩
  | .hbm, ⟨39, _⟩ => ⟨S500x2048, .bf16⟩
  | .hbm, ⟨40, _⟩ => ⟨S1x500x2048, .bf16⟩
  | .hbm, ⟨41, _⟩ => ⟨S1x500x2048, .bf16⟩
  | .hbm, ⟨42, _⟩ => ⟨S2x500x2048, .bf16⟩
  | .hbm, ⟨43, _⟩ => ⟨S500, .f32⟩
  | .hbm, ⟨44, _⟩ => ⟨S500, .f32⟩
  | .hbm, ⟨45, _⟩ => ⟨S500, .f32⟩
  | .hbm, ⟨46, _⟩ => ⟨S500, .f32⟩
  | .hbm, ⟨47, _⟩ => ⟨S1x500, .f32⟩
  | .hbm, ⟨48, _⟩ => ⟨S500, .f32⟩
  | .hbm, ⟨49, _⟩ => ⟨S500, .f32⟩
  | .hbm, ⟨50, _⟩ => ⟨S500, .f32⟩
  | .hbm, ⟨51, _⟩ => ⟨S500, .f32⟩
  | .hbm, ⟨52, _⟩ => ⟨S500, .f32⟩
  | .hbm, ⟨53, _⟩ => ⟨S1x500, .f32⟩
  | .hbm, ⟨54, _⟩ => ⟨S2048x2048, .bf16⟩
  | .hbm, ⟨55, _⟩ => ⟨S2048x2048, .bf16⟩
  | .hbm, ⟨56, _⟩ => ⟨S2048x256, .f32⟩
  | .hbm, ⟨57, _⟩ => ⟨S2048x256, .f32⟩
  | .hbm, ⟨58, _⟩ => ⟨S2048x128, .f32⟩
  | .hbm, ⟨59, _⟩ => ⟨S2048x128, .f32⟩
  | .hbm, ⟨60, _⟩ => ⟨S2048x2048, .bf16⟩
  | .hbm, ⟨61, _⟩ => ⟨S2048x2048, .bf16⟩
  | .hbm, ⟨62, _⟩ => ⟨S2048x256, .f32⟩
  | .hbm, ⟨63, _⟩ => ⟨S2048x256, .f32⟩
  | .hbm, ⟨64, _⟩ => ⟨S2048x128, .f32⟩
  | .hbm, ⟨65, _⟩ => ⟨S2048x128, .f32⟩
  | .hbm, ⟨66, _⟩ => ⟨S2x1, .f32⟩
  | .hbm, ⟨67, _⟩ => ⟨S2x2048, .f32⟩
  | .hbm, ⟨68, _⟩ => ⟨S1x2x2048, .f32⟩
  | .local _ .vmem, ⟨0, _⟩ => ⟨S2048x2048, .bf16⟩
  | .local _ .vmem, ⟨1, _⟩ => ⟨S2048x128, .f32⟩
  | .local _ .vmem, ⟨2, _⟩ => ⟨S2048x128, .f32⟩
  | .local _ .vmem, ⟨3, _⟩ => ⟨S2048x256, .f32⟩
  | .local _ .vmem, ⟨4, _⟩ => ⟨S2048x2048, .bf16⟩
  | .local _ .vmem, ⟨5, _⟩ => ⟨S2048x128, .f32⟩
  | .local _ .vmem, ⟨6, _⟩ => ⟨S2048x128, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S128x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x2048, .bf16⟩
  | .local _ .vmem, ⟨16, _⟩ => ⟨S2048x128, .f32⟩
  | .local _ .vmem, ⟨17, _⟩ => ⟨S2048x128, .f32⟩
  | .local _ .vmem, ⟨18, _⟩ => ⟨S2048x256, .f32⟩
  | .local _ .vmem, ⟨19, _⟩ => ⟨S2048x2048, .bf16⟩
  | .local _ .vmem, ⟨20, _⟩ => ⟨S2048x128, .f32⟩
  | .local _ .vmem, ⟨21, _⟩ => ⟨S2048x128, .f32⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S128x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x2048, .bf16⟩
  | .local _ .vmem, ⟨31, _⟩ => ⟨S2048x128, .f32⟩
  | .local _ .vmem, ⟨32, _⟩ => ⟨S2048x128, .f32⟩
  | .local _ .vmem, ⟨33, _⟩ => ⟨S2048x256, .f32⟩
  | .local _ .vmem, ⟨34, _⟩ => ⟨S2048x2048, .bf16⟩
  | .local _ .vmem, ⟨35, _⟩ => ⟨S2048x128, .f32⟩
  | .local _ .vmem, ⟨36, _⟩ => ⟨S2048x128, .f32⟩
  | .local _ .vmem, ⟨37, _⟩ => ⟨S2048x256, .f32⟩
  | .local _ .vmem, ⟨38, _⟩ => ⟨S2048x256, .f32⟩
  | .local _ .vmem, ⟨39, _⟩ => ⟨S2048x256, .f32⟩
  | .local _ .vmem, ⟨40, _⟩ => ⟨S128x128, .f32⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | .local _ .vmem, ⟨45, _⟩ => ⟨S256x500, .f32⟩
  | .local _ .vmem, ⟨46, _⟩ => ⟨S256x500, .f32⟩
  | .local _ .vmem, ⟨47, _⟩ => ⟨S256x500, .f32⟩
  | .local _ .vmem, ⟨48, _⟩ => ⟨S256x500, .f32⟩
  | .local _ .vmem, ⟨49, _⟩ => ⟨S1x500x2048, .bf16⟩
  | .local _ .vmem, ⟨50, _⟩ => ⟨S1x500x2048, .bf16⟩
  | .local _ .vmem, ⟨51, _⟩ => ⟨S1x500, .f32⟩
  | .local _ .vmem, ⟨52, _⟩ => ⟨S256x2048, .bf16⟩
  | .local _ .vmem, ⟨53, _⟩ => ⟨S256x2048, .bf16⟩
  | .local _ .vmem, ⟨54, _⟩ => ⟨S2048x2048, .f32⟩
  | .local _ .vmem, ⟨55, _⟩ => ⟨S256x500, .f32⟩
  | .local _ .vmem, ⟨56, _⟩ => ⟨S256x500, .f32⟩
  | .local _ .vmem, ⟨57, _⟩ => ⟨S256x500, .f32⟩
  | .local _ .vmem, ⟨58, _⟩ => ⟨S256x500, .f32⟩
  | .local _ .vmem, ⟨59, _⟩ => ⟨S1x500x2048, .bf16⟩
  | .local _ .vmem, ⟨60, _⟩ => ⟨S1x500x2048, .bf16⟩
  | .local _ .vmem, ⟨61, _⟩ => ⟨S1x500, .f32⟩
  | .local _ .vmem, ⟨62, _⟩ => ⟨S256x2048, .bf16⟩
  | .local _ .vmem, ⟨63, _⟩ => ⟨S256x2048, .bf16⟩
  | .local _ .vmem, ⟨64, _⟩ => ⟨S2048x2048, .f32⟩
  | .local _ .vmem, ⟨65, _⟩ => ⟨S2048x2048, .bf16⟩
  | .local _ .vmem, ⟨66, _⟩ => ⟨S2048x128, .f32⟩
  | .local _ .vmem, ⟨67, _⟩ => ⟨S2048x128, .f32⟩
  | .local _ .vmem, ⟨68, _⟩ => ⟨S2048x256, .f32⟩
  | .local _ .vmem, ⟨69, _⟩ => ⟨S2048x2048, .bf16⟩
  | .local _ .vmem, ⟨70, _⟩ => ⟨S2048x128, .f32⟩
  | .local _ .vmem, ⟨71, _⟩ => ⟨S2048x128, .f32⟩
  | .local _ .vmem, ⟨72, _⟩ => ⟨S2048x256, .f32⟩
  | .local _ .vmem, ⟨73, _⟩ => ⟨S2048x256, .f32⟩
  | .local _ .vmem, ⟨74, _⟩ => ⟨S2048x256, .f32⟩
  | .local _ .vmem, ⟨75, _⟩ => ⟨S128x128, .f32⟩
  | .local _ .vmem, ⟨76, _⟩ => ⟨S2048x128, .f32⟩
  | .local _ .vmem, ⟨77, _⟩ => ⟨S2048x128, .f32⟩
  | .local _ .vmem, ⟨78, _⟩ => ⟨S2048x128, .f32⟩
  | .local _ .vmem, ⟨79, _⟩ => ⟨S2048x128, .f32⟩
  | .local _ .vmem, ⟨80, _⟩ => ⟨S256x500, .f32⟩
  | .local _ .vmem, ⟨81, _⟩ => ⟨S256x500, .f32⟩
  | .local _ .vmem, ⟨82, _⟩ => ⟨S256x500, .f32⟩
  | .local _ .vmem, ⟨83, _⟩ => ⟨S256x500, .f32⟩
  | .local _ .vmem, ⟨84, _⟩ => ⟨S1x500x2048, .bf16⟩
  | .local _ .vmem, ⟨85, _⟩ => ⟨S1x500x2048, .bf16⟩
  | .local _ .vmem, ⟨86, _⟩ => ⟨S1x500, .f32⟩
  | .local _ .vmem, ⟨87, _⟩ => ⟨S256x2048, .bf16⟩
  | .local _ .vmem, ⟨88, _⟩ => ⟨S256x2048, .bf16⟩
  | .local _ .vmem, ⟨89, _⟩ => ⟨S2048x2048, .f32⟩
  | .local _ .vmem, ⟨90, _⟩ => ⟨S256x500, .f32⟩
  | .local _ .vmem, ⟨91, _⟩ => ⟨S256x500, .f32⟩
  | .local _ .vmem, ⟨92, _⟩ => ⟨S256x500, .f32⟩
  | .local _ .vmem, ⟨93, _⟩ => ⟨S256x500, .f32⟩
  | .local _ .vmem, ⟨94, _⟩ => ⟨S1x500x2048, .bf16⟩
  | .local _ .vmem, ⟨95, _⟩ => ⟨S1x500x2048, .bf16⟩
  | .local _ .vmem, ⟨96, _⟩ => ⟨S1x500, .f32⟩
  | .local _ .vmem, ⟨97, _⟩ => ⟨S256x2048, .bf16⟩
  | .local _ .vmem, ⟨98, _⟩ => ⟨S256x2048, .bf16⟩
  | .local _ .vmem, ⟨99, _⟩ => ⟨S2048x2048, .f32⟩
  | .local _ .vmem, ⟨100, _⟩ => ⟨S2048x2048, .bf16⟩
  | .local _ .vmem, ⟨101, _⟩ => ⟨S2048x128, .f32⟩
  | .local _ .vmem, ⟨102, _⟩ => ⟨S2048x128, .f32⟩
  | .local _ .vmem, ⟨103, _⟩ => ⟨S2048x256, .f32⟩
  | .local _ .vmem, ⟨104, _⟩ => ⟨S2048x2048, .bf16⟩
  | .local _ .vmem, ⟨105, _⟩ => ⟨S2048x128, .f32⟩
  | .local _ .vmem, ⟨106, _⟩ => ⟨S2048x128, .f32⟩
  | .local _ .vmem, ⟨107, _⟩ => ⟨S2048x256, .f32⟩
  | .local _ .vmem, ⟨108, _⟩ => ⟨S2048x256, .f32⟩
  | .local _ .vmem, ⟨109, _⟩ => ⟨S2048x256, .f32⟩
  | .local _ .vmem, ⟨110, _⟩ => ⟨S128x128, .f32⟩
  | .local _ .vmem, ⟨111, _⟩ => ⟨S2048x128, .f32⟩
  | .local _ .vmem, ⟨112, _⟩ => ⟨S2048x128, .f32⟩
  | .local _ .vmem, ⟨113, _⟩ => ⟨S2048x128, .f32⟩
  | .local _ .vmem, ⟨114, _⟩ => ⟨S2048x128, .f32⟩
  | .local _ .vmem, ⟨115, _⟩ => ⟨S2048x128, .f32⟩
  | .local _ .vmem, ⟨116, _⟩ => ⟨S2048x128, .f32⟩
  | .local _ .vmem, ⟨117, _⟩ => ⟨S2x256, .f32⟩
  | .local _ .vmem, ⟨118, _⟩ => ⟨S2x1, .f32⟩
  | .local _ .vmem, ⟨119, _⟩ => ⟨S2x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4_0 : Ref sig .tc := ⟨.hbm, 22, rfl⟩
abbrev main_call0_v4_1 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9_0 : Ref sig .tc := ⟨.hbm, 28, rfl⟩
abbrev main_call0_v9_1 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14_0 : Ref sig .tc := ⟨.hbm, 34, rfl⟩
abbrev main_call0_v14_1 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_call0_v32 : Ref sig .tc := ⟨.hbm, 53, rfl⟩
abbrev main_call0_v33 : Ref sig .tc := ⟨.hbm, 54, rfl⟩
abbrev main_call0_v34 : Ref sig .tc := ⟨.hbm, 55, rfl⟩
abbrev main_call0_v35 : Ref sig .tc := ⟨.hbm, 56, rfl⟩
abbrev main_call0_v36 : Ref sig .tc := ⟨.hbm, 57, rfl⟩
abbrev main_call0_v37_0 : Ref sig .tc := ⟨.hbm, 58, rfl⟩
abbrev main_call0_v37_1 : Ref sig .tc := ⟨.hbm, 59, rfl⟩
abbrev main_call0_v38 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42_0 : Ref sig .tc := ⟨.hbm, 64, rfl⟩
abbrev main_call0_v42_1 : Ref sig .tc := ⟨.hbm, 65, rfl⟩
abbrev main_call0_v43 : Ref sig .tc := ⟨.hbm, 66, rfl⟩
abbrev main_call0_v44 : Ref sig .tc := ⟨.hbm, 67, rfl⟩
abbrev main_v0 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc4_stg0_0 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg3_0 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc5_stg3_0 : Ref sig .tc := ⟨.vmem, 26, rfl⟩
abbrev cc5_stg4_0 : Ref sig .tc := ⟨.vmem, 27, rfl⟩
abbrev cc5_stg5_0 : Ref sig .tc := ⟨.vmem, 28, rfl⟩
abbrev cc5_stg6_0 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc7_stg0_0 : Ref sig .tc := ⟨.vmem, 34, rfl⟩
abbrev cc7_stg1_0 : Ref sig .tc := ⟨.vmem, 35, rfl⟩
abbrev cc7_stg2_0 : Ref sig .tc := ⟨.vmem, 36, rfl⟩
abbrev cc7_stg3_0 : Ref sig .tc := ⟨.vmem, 37, rfl⟩
abbrev cc8_stg0_0 : Ref sig .tc := ⟨.vmem, 38, rfl⟩
abbrev cc8_stg1_0 : Ref sig .tc := ⟨.vmem, 39, rfl⟩
abbrev cc8_stg2_0 : Ref sig .tc := ⟨.vmem, 40, rfl⟩
abbrev cc8_stg3_0 : Ref sig .tc := ⟨.vmem, 41, rfl⟩
abbrev cc8_stg4_0 : Ref sig .tc := ⟨.vmem, 42, rfl⟩
abbrev cc8_stg5_0 : Ref sig .tc := ⟨.vmem, 43, rfl⟩
abbrev cc8_stg6_0 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg1_1 : Ref sig .tc := ⟨.vmem, 48, rfl⟩
abbrev cc9_stg2_0 : Ref sig .tc := ⟨.vmem, 49, rfl⟩
abbrev cc9_stg2_1 : Ref sig .tc := ⟨.vmem, 50, rfl⟩
abbrev cc9_stg3_0 : Ref sig .tc := ⟨.vmem, 51, rfl⟩
abbrev cc9_stg4_0 : Ref sig .tc := ⟨.vmem, 52, rfl⟩
abbrev cc9_stg4_1 : Ref sig .tc := ⟨.vmem, 53, rfl⟩
abbrev cc9_scratch0 : Ref sig .tc := ⟨.vmem, 54, rfl⟩
abbrev cc10_stg0_0 : Ref sig .tc := ⟨.vmem, 55, rfl⟩
abbrev cc10_stg0_1 : Ref sig .tc := ⟨.vmem, 56, rfl⟩
abbrev cc10_stg1_0 : Ref sig .tc := ⟨.vmem, 57, rfl⟩
abbrev cc10_stg1_1 : Ref sig .tc := ⟨.vmem, 58, rfl⟩
abbrev cc10_stg2_0 : Ref sig .tc := ⟨.vmem, 59, rfl⟩
abbrev cc10_stg2_1 : Ref sig .tc := ⟨.vmem, 60, rfl⟩
abbrev cc10_stg3_0 : Ref sig .tc := ⟨.vmem, 61, rfl⟩
abbrev cc10_stg4_0 : Ref sig .tc := ⟨.vmem, 62, rfl⟩
abbrev cc10_stg4_1 : Ref sig .tc := ⟨.vmem, 63, rfl⟩
abbrev cc10_scratch0 : Ref sig .tc := ⟨.vmem, 64, rfl⟩
abbrev cc11_stg0_0 : Ref sig .tc := ⟨.vmem, 65, rfl⟩
abbrev cc11_stg1_0 : Ref sig .tc := ⟨.vmem, 66, rfl⟩
abbrev cc11_stg2_0 : Ref sig .tc := ⟨.vmem, 67, rfl⟩
abbrev cc11_stg3_0 : Ref sig .tc := ⟨.vmem, 68, rfl⟩
abbrev cc12_stg0_0 : Ref sig .tc := ⟨.vmem, 69, rfl⟩
abbrev cc12_stg1_0 : Ref sig .tc := ⟨.vmem, 70, rfl⟩
abbrev cc12_stg2_0 : Ref sig .tc := ⟨.vmem, 71, rfl⟩
abbrev cc12_stg3_0 : Ref sig .tc := ⟨.vmem, 72, rfl⟩
abbrev cc13_stg0_0 : Ref sig .tc := ⟨.vmem, 73, rfl⟩
abbrev cc13_stg1_0 : Ref sig .tc := ⟨.vmem, 74, rfl⟩
abbrev cc13_stg2_0 : Ref sig .tc := ⟨.vmem, 75, rfl⟩
abbrev cc13_stg3_0 : Ref sig .tc := ⟨.vmem, 76, rfl⟩
abbrev cc13_stg4_0 : Ref sig .tc := ⟨.vmem, 77, rfl⟩
abbrev cc13_stg5_0 : Ref sig .tc := ⟨.vmem, 78, rfl⟩
abbrev cc13_stg6_0 : Ref sig .tc := ⟨.vmem, 79, rfl⟩
abbrev cc14_stg0_0 : Ref sig .tc := ⟨.vmem, 80, rfl⟩
abbrev cc14_stg0_1 : Ref sig .tc := ⟨.vmem, 81, rfl⟩
abbrev cc14_stg1_0 : Ref sig .tc := ⟨.vmem, 82, rfl⟩
abbrev cc14_stg1_1 : Ref sig .tc := ⟨.vmem, 83, rfl⟩
abbrev cc14_stg2_0 : Ref sig .tc := ⟨.vmem, 84, rfl⟩
abbrev cc14_stg2_1 : Ref sig .tc := ⟨.vmem, 85, rfl⟩
abbrev cc14_stg3_0 : Ref sig .tc := ⟨.vmem, 86, rfl⟩
abbrev cc14_stg4_0 : Ref sig .tc := ⟨.vmem, 87, rfl⟩
abbrev cc14_stg4_1 : Ref sig .tc := ⟨.vmem, 88, rfl⟩
abbrev cc14_scratch0 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg1_1 : Ref sig .tc := ⟨.vmem, 93, rfl⟩
abbrev cc15_stg2_0 : Ref sig .tc := ⟨.vmem, 94, rfl⟩
abbrev cc15_stg2_1 : Ref sig .tc := ⟨.vmem, 95, rfl⟩
abbrev cc15_stg3_0 : Ref sig .tc := ⟨.vmem, 96, rfl⟩
abbrev cc15_stg4_0 : Ref sig .tc := ⟨.vmem, 97, rfl⟩
abbrev cc15_stg4_1 : Ref sig .tc := ⟨.vmem, 98, rfl⟩
abbrev cc15_scratch0 : Ref sig .tc := ⟨.vmem, 99, rfl⟩
abbrev cc16_stg0_0 : Ref sig .tc := ⟨.vmem, 100, rfl⟩
abbrev cc16_stg1_0 : Ref sig .tc := ⟨.vmem, 101, rfl⟩
abbrev cc16_stg2_0 : Ref sig .tc := ⟨.vmem, 102, rfl⟩
abbrev cc16_stg3_0 : Ref sig .tc := ⟨.vmem, 103, rfl⟩
abbrev cc17_stg0_0 : Ref sig .tc := ⟨.vmem, 104, rfl⟩
abbrev cc17_stg1_0 : Ref sig .tc := ⟨.vmem, 105, rfl⟩
abbrev cc17_stg2_0 : Ref sig .tc := ⟨.vmem, 106, rfl⟩
abbrev cc17_stg3_0 : Ref sig .tc := ⟨.vmem, 107, rfl⟩
abbrev cc18_stg0_0 : Ref sig .tc := ⟨.vmem, 108, rfl⟩
abbrev cc18_stg1_0 : Ref sig .tc := ⟨.vmem, 109, rfl⟩
abbrev cc18_stg2_0 : Ref sig .tc := ⟨.vmem, 110, rfl⟩
abbrev cc18_stg3_0 : Ref sig .tc := ⟨.vmem, 111, rfl⟩
abbrev cc18_stg4_0 : Ref sig .tc := ⟨.vmem, 112, rfl⟩
abbrev cc18_stg5_0 : Ref sig .tc := ⟨.vmem, 113, rfl⟩
abbrev cc18_stg6_0 : Ref sig .tc := ⟨.vmem, 114, rfl⟩
abbrev cc19_stg0_0 : Ref sig .tc := ⟨.vmem, 115, rfl⟩
abbrev cc19_stg1_0 : Ref sig .tc := ⟨.vmem, 116, rfl⟩
abbrev cc19_stg2_0 : Ref sig .tc := ⟨.vmem, 117, rfl⟩
abbrev cc19_stg3_0 : Ref sig .tc := ⟨.vmem, 118, rfl⟩
abbrev cc19_stg4_0 : Ref sig .tc := ⟨.vmem, 119, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem6_0 : DmaSem sig := 14
abbrev cc3_sem0_0 : DmaSem sig := 15
abbrev cc3_sem1_0 : DmaSem sig := 16
abbrev cc3_sem2_0 : DmaSem sig := 17
abbrev cc3_sem3_0 : DmaSem sig := 18
abbrev cc4_sem0_0 : DmaSem sig := 19
abbrev cc4_sem1_0 : DmaSem sig := 20
abbrev cc4_sem2_0 : DmaSem sig := 21
abbrev cc4_sem3_0 : DmaSem sig := 22
abbrev cc5_sem0_0 : DmaSem sig := 23
abbrev cc5_sem1_0 : DmaSem sig := 24
abbrev cc5_sem2_0 : DmaSem sig := 25
abbrev cc5_sem3_0 : DmaSem sig := 26
abbrev cc5_sem4_0 : DmaSem sig := 27
abbrev cc5_sem5_0 : DmaSem sig := 28
abbrev cc5_sem6_0 : DmaSem sig := 29
abbrev cc6_sem0_0 : DmaSem sig := 30
abbrev cc6_sem1_0 : DmaSem sig := 31
abbrev cc6_sem2_0 : DmaSem sig := 32
abbrev cc6_sem3_0 : DmaSem sig := 33
abbrev cc7_sem0_0 : DmaSem sig := 34
abbrev cc7_sem1_0 : DmaSem sig := 35
abbrev cc7_sem2_0 : DmaSem sig := 36
abbrev cc7_sem3_0 : DmaSem sig := 37
abbrev cc8_sem0_0 : DmaSem sig := 38
abbrev cc8_sem1_0 : DmaSem sig := 39
abbrev cc8_sem2_0 : DmaSem sig := 40
abbrev cc8_sem3_0 : DmaSem sig := 41
abbrev cc8_sem4_0 : DmaSem sig := 42
abbrev cc8_sem5_0 : DmaSem sig := 43
abbrev cc8_sem6_0 : DmaSem sig := 44
abbrev cc9_sem0_0 : DmaSem sig := 45
abbrev cc9_sem0_1 : DmaSem sig := 46
abbrev cc9_sem1_0 : DmaSem sig := 47
abbrev cc9_sem1_1 : DmaSem sig := 48
abbrev cc9_sem2_0 : DmaSem sig := 49
abbrev cc9_sem2_1 : DmaSem sig := 50
abbrev cc9_sem3_0 : DmaSem sig := 51
abbrev cc9_sem4_0 : DmaSem sig := 52
abbrev cc9_sem4_1 : DmaSem sig := 53
abbrev cc10_sem0_0 : DmaSem sig := 54
abbrev cc10_sem0_1 : DmaSem sig := 55
abbrev cc10_sem1_0 : DmaSem sig := 56
abbrev cc10_sem1_1 : DmaSem sig := 57
abbrev cc10_sem2_0 : DmaSem sig := 58
abbrev cc10_sem2_1 : DmaSem sig := 59
abbrev cc10_sem3_0 : DmaSem sig := 60
abbrev cc10_sem4_0 : DmaSem sig := 61
abbrev cc10_sem4_1 : DmaSem sig := 62
abbrev cc11_sem0_0 : DmaSem sig := 63
abbrev cc11_sem1_0 : DmaSem sig := 64
abbrev cc11_sem2_0 : DmaSem sig := 65
abbrev cc11_sem3_0 : DmaSem sig := 66
abbrev cc12_sem0_0 : DmaSem sig := 67
abbrev cc12_sem1_0 : DmaSem sig := 68
abbrev cc12_sem2_0 : DmaSem sig := 69
abbrev cc12_sem3_0 : DmaSem sig := 70
abbrev cc13_sem0_0 : DmaSem sig := 71
abbrev cc13_sem1_0 : DmaSem sig := 72
abbrev cc13_sem2_0 : DmaSem sig := 73
abbrev cc13_sem3_0 : DmaSem sig := 74
abbrev cc13_sem4_0 : DmaSem sig := 75
abbrev cc13_sem5_0 : DmaSem sig := 76
abbrev cc13_sem6_0 : DmaSem sig := 77
abbrev cc14_sem0_0 : DmaSem sig := 78
abbrev cc14_sem0_1 : DmaSem sig := 79
abbrev cc14_sem1_0 : DmaSem sig := 80
abbrev cc14_sem1_1 : DmaSem sig := 81
abbrev cc14_sem2_0 : DmaSem sig := 82
abbrev cc14_sem2_1 : DmaSem sig := 83
abbrev cc14_sem3_0 : DmaSem sig := 84
abbrev cc14_sem4_0 : DmaSem sig := 85
abbrev cc14_sem4_1 : DmaSem sig := 86
abbrev cc15_sem0_0 : DmaSem sig := 87
abbrev cc15_sem0_1 : DmaSem sig := 88
abbrev cc15_sem1_0 : DmaSem sig := 89
abbrev cc15_sem1_1 : DmaSem sig := 90
abbrev cc15_sem2_0 : DmaSem sig := 91
abbrev cc15_sem2_1 : DmaSem sig := 92
abbrev cc15_sem3_0 : DmaSem sig := 93
abbrev cc15_sem4_0 : DmaSem sig := 94
abbrev cc15_sem4_1 : DmaSem sig := 95
abbrev cc16_sem0_0 : DmaSem sig := 96
abbrev cc16_sem1_0 : DmaSem sig := 97
abbrev cc16_sem2_0 : DmaSem sig := 98
abbrev cc16_sem3_0 : DmaSem sig := 99
abbrev cc17_sem0_0 : DmaSem sig := 100
abbrev cc17_sem1_0 : DmaSem sig := 101
abbrev cc17_sem2_0 : DmaSem sig := 102
abbrev cc17_sem3_0 : DmaSem sig := 103
abbrev cc18_sem0_0 : DmaSem sig := 104
abbrev cc18_sem1_0 : DmaSem sig := 105
abbrev cc18_sem2_0 : DmaSem sig := 106
abbrev cc18_sem3_0 : DmaSem sig := 107
abbrev cc18_sem4_0 : DmaSem sig := 108
abbrev cc18_sem5_0 : DmaSem sig := 109
abbrev cc18_sem6_0 : DmaSem sig := 110
abbrev cc19_sem0_0 : DmaSem sig := 111
abbrev cc19_sem1_0 : DmaSem sig := 112
abbrev cc19_sem2_0 : DmaSem sig := 113
abbrev cc19_sem3_0 : DmaSem sig := 114
abbrev cc19_sem4_0 : DmaSem sig := 115

abbrev nD : Nat := 1
abbrev τ : Topo := Topo.v7x

variable {F : FTy → Type} [FloatOps F]

abbrev grid0 : Pipeline.Grid := .none

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := .none

abbrev stage2_0 : Fin 1 → Memref sig .tc .vmem S2048x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2048x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2048x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S2048x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S2048x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S2048x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev grid3 : Pipeline.Grid := .none

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S2048x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S2048x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S2048x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := .none

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S2048x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S2048x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S2048x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev grid5 : Pipeline.Grid := .none

abbrev stage5_0 : Fin 1 → Memref sig .tc .vmem S2048x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S2048x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S2048x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S2048x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S2048x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S2048x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev grid6 : Pipeline.Grid := .none

abbrev stage6_0 : Fin 1 → Memref sig .tc .vmem S2048x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S2048x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S2048x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S2048x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev grid7 : Pipeline.Grid := .none

abbrev stage7_0 : Fin 1 → Memref sig .tc .vmem S2048x2048 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S2048x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S2048x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S2048x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev grid8 : Pipeline.Grid := .none

abbrev stage8_0 : Fin 1 → Memref sig .tc .vmem S2048x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S2048x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S2048x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev stage8_4 : Fin 1 → Memref sig .tc .vmem S2048x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))

abbrev stage8_5 : Fin 1 → Memref sig .tc .vmem S2048x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))

abbrev stage8_6 : Fin 1 → Memref sig .tc .vmem S2048x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))

abbrev grid9 : Pipeline.Grid := ⟨2, ![2, 8], ![false, false]⟩

def k9_cond1 (i : grid9.Coords) : BitVec 1 :=
  let arg0 : BitVec 32 := BitVec.ofNat 32 (i 0).val
  let c0_i32_8 : BitVec 32 := 0#32
  let v12 : BitVec 1 := Scalar.cmpi .eq arg0 c0_i32_8
  let v13 : BitVec 32 := Scalar.extui v12
  let c0_i32_9 : BitVec 32 := 0#32
  let v14 : BitVec 1 := Scalar.cmpi .ne v13 c0_i32_9
  v14

def k9_off1 (i : grid9.Coords) : Fin 2 → Nat :=
  let arg1 : BitVec 32 := BitVec.ofNat 32 (i 1).val
  let c256_i32 : BitVec 32 := 256#32
  let v18 : BitVec 32 := Scalar.muli arg1 c256_i32
  let v19 : Index := Scalar.indexCast v18
  let c0_11 : Index := 0#32
  ![v19.toNat, 0]
def k9_cond2 (i : grid9.Coords) : BitVec 1 :=
  let arg0 : BitVec 32 := BitVec.ofNat 32 (i 0).val
  let c1_i32 : BitVec 32 := 1#32
  let v15 : BitVec 1 := Scalar.cmpi .eq arg0 c1_i32
  let v16 : BitVec 32 := Scalar.extui v15
  let c0_i32_10 : BitVec 32 := 0#32
  let v17 : BitVec 1 := Scalar.cmpi .ne v16 c0_i32_10
  v17

def k9_off2 (i : grid9.Coords) : Fin 2 → Nat :=
  let arg1 : BitVec 32 := BitVec.ofNat 32 (i 1).val
  let c256_i32 : BitVec 32 := 256#32
  let v18 : BitVec 32 := Scalar.muli arg1 c256_i32
  let v19 : Index := Scalar.indexCast v18
  let c0_11 : Index := 0#32
  ![v19.toNat, 0]
def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage9_0 : Fin 2 → Memref sig .tc .vmem S256x500 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S256x500 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1x500x2048 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 1 → Memref sig .tc .vmem S1x500 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 2 → Memref sig .tc .vmem S256x2048 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![false, true]

abbrev grid10 : Pipeline.Grid := ⟨2, ![2, 8], ![false, false]⟩

def k10_cond1 (i : grid10.Coords) : BitVec 1 :=
  let arg0 : BitVec 32 := BitVec.ofNat 32 (i 0).val
  let c0_i32_8 : BitVec 32 := 0#32
  let v12 : BitVec 1 := Scalar.cmpi .eq arg0 c0_i32_8
  let v13 : BitVec 32 := Scalar.extui v12
  let c0_i32_9 : BitVec 32 := 0#32
  let v14 : BitVec 1 := Scalar.cmpi .ne v13 c0_i32_9
  v14

def k10_off1 (i : grid10.Coords) : Fin 2 → Nat :=
  let arg1 : BitVec 32 := BitVec.ofNat 32 (i 1).val
  let c256_i32 : BitVec 32 := 256#32
  let v18 : BitVec 32 := Scalar.muli arg1 c256_i32
  let v19 : Index := Scalar.indexCast v18
  let c0_11 : Index := 0#32
  ![v19.toNat, 0]
def k10_cond2 (i : grid10.Coords) : BitVec 1 :=
  let arg0 : BitVec 32 := BitVec.ofNat 32 (i 0).val
  let c1_i32 : BitVec 32 := 1#32
  let v15 : BitVec 1 := Scalar.cmpi .eq arg0 c1_i32
  let v16 : BitVec 32 := Scalar.extui v15
  let c0_i32_10 : BitVec 32 := 0#32
  let v17 : BitVec 1 := Scalar.cmpi .ne v16 c0_i32_10
  v17

def k10_off2 (i : grid10.Coords) : Fin 2 → Nat :=
  let arg1 : BitVec 32 := BitVec.ofNat 32 (i 1).val
  let c256_i32 : BitVec 32 := 256#32
  let v18 : BitVec 32 := Scalar.muli arg1 c256_i32
  let v19 : Index := Scalar.indexCast v18
  let c0_11 : Index := 0#32
  ![v19.toNat, 0]
def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage10_0 : Fin 2 → Memref sig .tc .vmem S256x500 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 2 → Memref sig .tc .vmem S256x500 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1x500x2048 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev stage10_3 : Fin 1 → Memref sig .tc .vmem S1x500 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false, false]

abbrev stage10_4 : Fin 2 → Memref sig .tc .vmem S256x2048 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![false, true]

abbrev grid11 : Pipeline.Grid := .none

abbrev stage11_0 : Fin 1 → Memref sig .tc .vmem S2048x2048 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))

abbrev stage11_1 : Fin 1 → Memref sig .tc .vmem S2048x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))

abbrev stage11_2 : Fin 1 → Memref sig .tc .vmem S2048x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))

abbrev stage11_3 : Fin 1 → Memref sig .tc .vmem S2048x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))

abbrev grid12 : Pipeline.Grid := .none

abbrev stage12_0 : Fin 1 → Memref sig .tc .vmem S2048x2048 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))

abbrev stage12_1 : Fin 1 → Memref sig .tc .vmem S2048x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))

abbrev stage12_2 : Fin 1 → Memref sig .tc .vmem S2048x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))

abbrev stage12_3 : Fin 1 → Memref sig .tc .vmem S2048x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))

abbrev grid13 : Pipeline.Grid := .none

abbrev stage13_0 : Fin 1 → Memref sig .tc .vmem S2048x256 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))

abbrev stage13_1 : Fin 1 → Memref sig .tc .vmem S2048x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))

abbrev stage13_3 : Fin 1 → Memref sig .tc .vmem S2048x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))

abbrev stage13_4 : Fin 1 → Memref sig .tc .vmem S2048x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))

abbrev stage13_5 : Fin 1 → Memref sig .tc .vmem S2048x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))

abbrev stage13_6 : Fin 1 → Memref sig .tc .vmem S2048x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))

abbrev grid14 : Pipeline.Grid := ⟨2, ![2, 8], ![false, false]⟩

def k14_cond1 (i : grid14.Coords) : BitVec 1 :=
  let arg0 : BitVec 32 := BitVec.ofNat 32 (i 0).val
  let c0_i32_8 : BitVec 32 := 0#32
  let v12 : BitVec 1 := Scalar.cmpi .eq arg0 c0_i32_8
  let v13 : BitVec 32 := Scalar.extui v12
  let c0_i32_9 : BitVec 32 := 0#32
  let v14 : BitVec 1 := Scalar.cmpi .ne v13 c0_i32_9
  v14

def k14_off1 (i : grid14.Coords) : Fin 2 → Nat :=
  let arg1 : BitVec 32 := BitVec.ofNat 32 (i 1).val
  let c256_i32 : BitVec 32 := 256#32
  let v18 : BitVec 32 := Scalar.muli arg1 c256_i32
  let v19 : Index := Scalar.indexCast v18
  let c0_11 : Index := 0#32
  ![v19.toNat, 0]
def k14_cond2 (i : grid14.Coords) : BitVec 1 :=
  let arg0 : BitVec 32 := BitVec.ofNat 32 (i 0).val
  let c1_i32 : BitVec 32 := 1#32
  let v15 : BitVec 1 := Scalar.cmpi .eq arg0 c1_i32
  let v16 : BitVec 32 := Scalar.extui v15
  let c0_i32_10 : BitVec 32 := 0#32
  let v17 : BitVec 1 := Scalar.cmpi .ne v16 c0_i32_10
  v17

def k14_off2 (i : grid14.Coords) : Fin 2 → Nat :=
  let arg1 : BitVec 32 := BitVec.ofNat 32 (i 1).val
  let c256_i32 : BitVec 32 := 256#32
  let v18 : BitVec 32 := Scalar.muli arg1 c256_i32
  let v19 : Index := Scalar.indexCast v18
  let c0_11 : Index := 0#32
  ![v19.toNat, 0]
def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_2 (i : grid14.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc14_transform_3 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage14_0 : Fin 2 → Memref sig .tc .vmem S256x500 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![false, true]

abbrev stage14_1 : Fin 2 → Memref sig .tc .vmem S256x500 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1x500x2048 .bf16 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, false]

abbrev stage14_3 : Fin 1 → Memref sig .tc .vmem S1x500 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false, false]

abbrev stage14_4 : Fin 2 → Memref sig .tc .vmem S256x2048 .bf16 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![false, true]

abbrev grid15 : Pipeline.Grid := ⟨2, ![2, 8], ![false, false]⟩

def k15_cond1 (i : grid15.Coords) : BitVec 1 :=
  let arg0 : BitVec 32 := BitVec.ofNat 32 (i 0).val
  let c0_i32_8 : BitVec 32 := 0#32
  let v12 : BitVec 1 := Scalar.cmpi .eq arg0 c0_i32_8
  let v13 : BitVec 32 := Scalar.extui v12
  let c0_i32_9 : BitVec 32 := 0#32
  let v14 : BitVec 1 := Scalar.cmpi .ne v13 c0_i32_9
  v14

def k15_off1 (i : grid15.Coords) : Fin 2 → Nat :=
  let arg1 : BitVec 32 := BitVec.ofNat 32 (i 1).val
  let c256_i32 : BitVec 32 := 256#32
  let v18 : BitVec 32 := Scalar.muli arg1 c256_i32
  let v19 : Index := Scalar.indexCast v18
  let c0_11 : Index := 0#32
  ![v19.toNat, 0]
def k15_cond2 (i : grid15.Coords) : BitVec 1 :=
  let arg0 : BitVec 32 := BitVec.ofNat 32 (i 0).val
  let c1_i32 : BitVec 32 := 1#32
  let v15 : BitVec 1 := Scalar.cmpi .eq arg0 c1_i32
  let v16 : BitVec 32 := Scalar.extui v15
  let c0_i32_10 : BitVec 32 := 0#32
  let v17 : BitVec 1 := Scalar.cmpi .ne v16 c0_i32_10
  v17

def k15_off2 (i : grid15.Coords) : Fin 2 → Nat :=
  let arg1 : BitVec 32 := BitVec.ofNat 32 (i 1).val
  let c256_i32 : BitVec 32 := 256#32
  let v18 : BitVec 32 := Scalar.muli arg1 c256_i32
  let v19 : Index := Scalar.indexCast v18
  let c0_11 : Index := 0#32
  ![v19.toNat, 0]
def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_2 (i : grid15.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage15_0 : Fin 2 → Memref sig .tc .vmem S256x500 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![false, true]

abbrev stage15_1 : Fin 2 → Memref sig .tc .vmem S256x500 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true]

abbrev stage15_2 : Fin 2 → Memref sig .tc .vmem S1x500x2048 .bf16 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, false]

abbrev stage15_3 : Fin 1 → Memref sig .tc .vmem S1x500 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false, false]

abbrev stage15_4 : Fin 2 → Memref sig .tc .vmem S256x2048 .bf16 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![false, true]

abbrev grid16 : Pipeline.Grid := .none

abbrev stage16_0 : Fin 1 → Memref sig .tc .vmem S2048x2048 .bf16 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))

abbrev stage16_1 : Fin 1 → Memref sig .tc .vmem S2048x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))

abbrev stage16_2 : Fin 1 → Memref sig .tc .vmem S2048x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))

abbrev stage16_3 : Fin 1 → Memref sig .tc .vmem S2048x256 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))

abbrev grid17 : Pipeline.Grid := .none

abbrev stage17_0 : Fin 1 → Memref sig .tc .vmem S2048x2048 .bf16 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))

abbrev stage17_1 : Fin 1 → Memref sig .tc .vmem S2048x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))

abbrev stage17_2 : Fin 1 → Memref sig .tc .vmem S2048x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))

abbrev stage17_3 : Fin 1 → Memref sig .tc .vmem S2048x256 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))

abbrev grid18 : Pipeline.Grid := .none

abbrev stage18_0 : Fin 1 → Memref sig .tc .vmem S2048x256 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))

abbrev stage18_1 : Fin 1 → Memref sig .tc .vmem S2048x256 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))

abbrev stage18_2 : Fin 1 → Memref sig .tc .vmem S128x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))

abbrev stage18_3 : Fin 1 → Memref sig .tc .vmem S2048x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))

abbrev stage18_4 : Fin 1 → Memref sig .tc .vmem S2048x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))

abbrev stage18_5 : Fin 1 → Memref sig .tc .vmem S2048x128 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))

abbrev stage18_6 : Fin 1 → Memref sig .tc .vmem S2048x128 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))

abbrev grid19 : Pipeline.Grid := .none

abbrev stage19_0 : Fin 1 → Memref sig .tc .vmem S2048x128 .f32 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))

abbrev stage19_1 : Fin 1 → Memref sig .tc .vmem S2048x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))

abbrev stage19_2 : Fin 1 → Memref sig .tc .vmem S2x256 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))

abbrev stage19_3 : Fin 1 → Memref sig .tc .vmem S2x1 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))

abbrev stage19_4 : Fin 1 → Memref sig .tc .vmem S2x2048 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
-- ==== ReferenceIdeal.lean ====
abbrev S2048x128 : Shape := ⟨2, ![2048, 128]⟩
abbrev S2048x2048 : Shape := ⟨2, ![2048, 2048]⟩
abbrev S2048x500 : Shape := ⟨2, ![2048, 500]⟩
abbrev S500 : Shape := ⟨1, ![500]⟩
abbrev S128x128 : Shape := ⟨2, ![128, 128]⟩
abbrev S2x256 : Shape := ⟨2, ![2, 256]⟩
abbrev S2 : Shape := ⟨1, ![2]⟩
abbrev S_ : Shape := ⟨0, ![]⟩
abbrev S1x500 : Shape := ⟨2, ![1, 500]⟩
abbrev S500x2048 : Shape := ⟨2, ![500, 2048]⟩
abbrev S2048x256 : Shape := ⟨2, ![2048, 256]⟩
abbrev S256x2 : Shape := ⟨2, ![256, 2]⟩
abbrev S2048x2 : Shape := ⟨2, ![2048, 2]⟩
abbrev S1x2 : Shape := ⟨2, ![1, 2]⟩
abbrev S2048 : Shape := ⟨1, ![2048]⟩
abbrev S2048x1 : Shape := ⟨2, ![2048, 1]⟩
abbrev S2x2048 : Shape := ⟨2, ![2, 2048]⟩
abbrev S1x2x2048 : Shape := ⟨3, ![1, 2, 2048]⟩

abbrev nBuf : Space → Nat
  | .hbm => 172
  | .vmem => 0
  | .smem => 0
  | _ => 0

abbrev hbmTy0_0 (i : Nat) : BufTy := match i % 128 with
  | 0 => ⟨S2048x128, .f32⟩
  | 1 => ⟨S2048x128, .f32⟩
  | 2 => ⟨S2048x2048, .f32⟩
  | 3 => ⟨S2048x2048, .f32⟩
  | 4 => ⟨S2048x2048, .f32⟩
  | 5 => ⟨S2048x2048, .f32⟩
  | 6 => ⟨S2048x2048, .f32⟩
  | 7 => ⟨S2048x2048, .f32⟩
  | 8 => ⟨S2048x500, .f32⟩
  | 9 => ⟨S2048x500, .f32⟩
  | 10 => ⟨S500, .f32⟩
  | 11 => ⟨S128x128, .f32⟩
  | 12 => ⟨S128x128, .f32⟩
  | 13 => ⟨S128x128, .f32⟩
  | 14 => ⟨S128x128, .f32⟩
  | 15 => ⟨S128x128, .f32⟩
  | 16 => ⟨S2x256, .f32⟩
  | 17 => ⟨S2, .f32⟩
  | 18 => ⟨S2048x128, .f32⟩
  | 19 => ⟨S2048x128, .f32⟩
  | 20 => ⟨S2048x128, .f32⟩
  | 21 => ⟨S2048x128, .f32⟩
  | 22 => ⟨S2048x128, .f32⟩
  | 23 => ⟨S2048x128, .f32⟩
  | 24 => ⟨S2048x128, .f32⟩
  | 25 => ⟨S2048x128, .f32⟩
  | 26 => ⟨S2048x128, .f32⟩
  | 27 => ⟨S2048x128, .f32⟩
  | 28 => ⟨S2048x128, .f32⟩
  | 29 => ⟨S2048x128, .f32⟩
  | 30 => ⟨S_, .f32⟩
  | 31 => ⟨S2048x128, .f32⟩
  | 32 => ⟨S2048x128, .i1⟩
  | 33 => ⟨S2048x128, .f32⟩
  | 34 => ⟨S2048x128, .f32⟩
  | 35 => ⟨S2048x128, .f32⟩
  | 36 => ⟨S2048x128, .f32⟩
  | 37 => ⟨S2048x128, .f32⟩
  | 38 => ⟨S2048x128, .f32⟩
  | 39 => ⟨S2048x128, .f32⟩
  | 40 => ⟨S2048x128, .f32⟩
  | 41 => ⟨S2048x128, .f32⟩
  | 42 => ⟨S2048x128, .f32⟩
  | 43 => ⟨S2048x128, .f32⟩
  | 44 => ⟨S2048x128, .f32⟩
  | 45 => ⟨S2048x128, .f32⟩
  | 46 => ⟨S2048x128, .f32⟩
  | 47 => ⟨S2048x128, .f32⟩
  | 48 => ⟨S_, .f32⟩
  | 49 => ⟨S2048x128, .f32⟩
  | 50 => ⟨S2048x128, .i1⟩
  | 51 => ⟨S2048x128, .f32⟩
  | 52 => ⟨S2048x128, .f32⟩
  | 53 => ⟨S2048x128, .f32⟩
  | 54 => ⟨S2048x128, .f32⟩
  | 55 => ⟨S2048x128, .f32⟩
  | 56 => ⟨S2048x128, .f32⟩
  | 57 => ⟨S2048x128, .f32⟩
  | 58 => ⟨S2048x128, .f32⟩
  | 59 => ⟨S2048x128, .f32⟩
  | 60 => ⟨S2048x128, .f32⟩
  | 61 => ⟨S2048x128, .f32⟩
  | 62 => ⟨S2048x128, .f32⟩
  | 63 => ⟨S2048x128, .f32⟩
  | 64 => ⟨S2048x128, .f32⟩
  | 65 => ⟨S2048x128, .f32⟩
  | 66 => ⟨S_, .f32⟩
  | 67 => ⟨S2048x128, .f32⟩
  | 68 => ⟨S2048x128, .i1⟩
  | 69 => ⟨S2048x128, .f32⟩
  | 70 => ⟨S2048x128, .f32⟩
  | 71 => ⟨S2048x128, .f32⟩
  | 72 => ⟨S500, .f32⟩
  | 73 => ⟨S500, .f32⟩
  | 74 => ⟨S500, .f32⟩
  | 75 => ⟨S500, .f32⟩
  | 76 => ⟨S1x500, .f32⟩
  | 77 => ⟨S2048x500, .f32⟩
  | 78 => ⟨S2048x500, .f32⟩
  | 79 => ⟨S1x500, .f32⟩
  | 80 => ⟨S2048x500, .f32⟩
  | 81 => ⟨S2048x500, .f32⟩
  | 82 => ⟨S500x2048, .f32⟩
  | 83 => ⟨S2048x2048, .f32⟩
  | 84 => ⟨S500x2048, .f32⟩
  | 85 => ⟨S2048x2048, .f32⟩
  | 86 => ⟨S2048x2048, .f32⟩
  | 87 => ⟨S500x2048, .f32⟩
  | 88 => ⟨S2048x2048, .f32⟩
  | 89 => ⟨S500x2048, .f32⟩
  | 90 => ⟨S2048x2048, .f32⟩
  | 91 => ⟨S2048x2048, .f32⟩
  | 92 => ⟨S2048x128, .f32⟩
  | 93 => ⟨S2048x128, .f32⟩
  | 94 => ⟨S2048x128, .f32⟩
  | 95 => ⟨S2048x128, .f32⟩
  | 96 => ⟨S2048x128, .f32⟩
  | 97 => ⟨S2048x128, .f32⟩
  | 98 => ⟨S2048x128, .f32⟩
  | 99 => ⟨S2048x128, .f32⟩
  | 100 => ⟨S2048x128, .f32⟩
  | 101 => ⟨S2048x128, .f32⟩
  | 102 => ⟨S_, .f32⟩
  | 103 => ⟨S2048x128, .f32⟩
  | 104 => ⟨S2048x128, .i1⟩
  | 105 => ⟨S2048x128, .f32⟩
  | 106 => ⟨S2048x128, .f32⟩
  | 107 => ⟨S2048x128, .f32⟩
  | 108 => ⟨S2048x128, .f32⟩
  | 109 => ⟨S2048x128, .f32⟩
  | 110 => ⟨S500, .f32⟩
  | 111 => ⟨S500, .f32⟩
  | 112 => ⟨S500, .f32⟩
  | 113 => ⟨S500, .f32⟩
  | 114 => ⟨S500, .f32⟩
  | 115 => ⟨S1x500, .f32⟩
  | 116 => ⟨S2048x500, .f32⟩
  | 117 => ⟨S2048x500, .f32⟩
  | 118 => ⟨S1x500, .f32⟩
  | 119 => ⟨S2048x500, .f32⟩
  | 120 => ⟨S2048x500, .f32⟩
  | 121 => ⟨S500x2048, .f32⟩
  | 122 => ⟨S2048x2048, .f32⟩
  | 123 => ⟨S500x2048, .f32⟩
  | 124 => ⟨S2048x2048, .f32⟩
  | 125 => ⟨S2048x2048, .f32⟩
  | 126 => ⟨S500x2048, .f32⟩
  | 127 => ⟨S2048x2048, .f32⟩
  | _ => ⟨S2048x128, .f32⟩

abbrev hbmTy0_1 (i : Nat) : BufTy := match i % 128 with
  | 0 => ⟨S500x2048, .f32⟩
  | 1 => ⟨S2048x2048, .f32⟩
  | 2 => ⟨S2048x2048, .f32⟩
  | 3 => ⟨S2048x128, .f32⟩
  | 4 => ⟨S2048x128, .f32⟩
  | 5 => ⟨S2048x128, .f32⟩
  | 6 => ⟨S2048x128, .f32⟩
  | 7 => ⟨S2048x128, .f32⟩
  | 8 => ⟨S2048x128, .f32⟩
  | 9 => ⟨S2048x128, .f32⟩
  | 10 => ⟨S2048x128, .f32⟩
  | 11 => ⟨S2048x128, .f32⟩
  | 12 => ⟨S2048x128, .f32⟩
  | 13 => ⟨S_, .f32⟩
  | 14 => ⟨S2048x128, .f32⟩
  | 15 => ⟨S2048x128, .i1⟩
  | 16 => ⟨S2048x128, .f32⟩
  | 17 => ⟨S2048x128, .f32⟩
  | 18 => ⟨S2048x128, .f32⟩
  | 19 => ⟨S2048x128, .f32⟩
  | 20 => ⟨S2048x128, .f32⟩
  | 21 => ⟨S2048x256, .f32⟩
  | 22 => ⟨S256x2, .f32⟩
  | 23 => ⟨S2048x2, .f32⟩
  | 24 => ⟨S1x2, .f32⟩
  | 25 => ⟨S2048x2, .f32⟩
  | 26 => ⟨S2048x2, .f32⟩
  | 27 => ⟨S_, .f32⟩
  | 28 => ⟨S2048, .f32⟩
  | 29 => ⟨S_, .f32⟩
  | 30 => ⟨S2048, .f32⟩
  | 31 => ⟨S2048, .f32⟩
  | 32 => ⟨S2048x1, .f32⟩
  | 33 => ⟨S2048x2, .f32⟩
  | 34 => ⟨S2048x2, .f32⟩
  | 35 => ⟨S2048x2, .f32⟩
  | 36 => ⟨S_, .f32⟩
  | 37 => ⟨S2048, .f32⟩
  | 38 => ⟨S2048x1, .f32⟩
  | 39 => ⟨S2048x1, .f32⟩
  | 40 => ⟨S2048x2, .f32⟩
  | 41 => ⟨S2048x2, .f32⟩
  | 42 => ⟨S2x2048, .f32⟩
  | 43 => ⟨S1x2x2048, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_1 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_2 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_3 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_call0_cst : Ref sig .tc := ⟨.hbm, 155, rfl⟩
abbrev main_call0_v0 : Ref sig .tc := ⟨.hbm, 156, rfl⟩
abbrev main_call0_cst_0 : Ref sig .tc := ⟨.hbm, 157, rfl⟩
abbrev main_call0_v1 : Ref sig .tc := ⟨.hbm, 158, rfl⟩
abbrev main_call0_v2 : Ref sig .tc := ⟨.hbm, 159, rfl⟩
abbrev main_call0_v3 : Ref sig .tc := ⟨.hbm, 160, rfl⟩
abbrev main_call0_v4 : Ref sig .tc := ⟨.hbm, 161, rfl⟩
abbrev main_call0_v5 : Ref sig .tc := ⟨.hbm, 162, rfl⟩
abbrev main_call0_v6 : Ref sig .tc := ⟨.hbm, 163, rfl⟩
abbrev main_call0_cst_1 : Ref sig .tc := ⟨.hbm, 164, rfl⟩
abbrev main_call0_v7 : Ref sig .tc := ⟨.hbm, 165, rfl⟩
abbrev main_call0_v8 : Ref sig .tc := ⟨.hbm, 166, rfl⟩
abbrev main_call0_v9 : Ref sig .tc := ⟨.hbm, 167, rfl⟩
abbrev main_call0_v10 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩

abbrev nD : Nat := 1
abbrev τ : Topo := Topo.v7x

variable {F : FTy → Type} [FloatOps F]
-- ==== Proof.Kit.lean ====
/- The set-up of the run: one relational proof-data shape for every kernel launch of the program, the fact that an input
   window of a launch without a grid is handed over as its whole array, and the region record shared by all launches. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ArrRel
public import Idealize.ShloMosaic.Lib.Pipeline.RegionArraysF
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.KernelIdeal.Gen

variable {F : FTy → Type} [FloatOps F]

local notation "𝕄" => MT nD τ sig Unit (Elt F) ℕ (UR sig nD τ) ℕ

/-- Proof data of one launch on core `c`, entered with the buffers at `V` and left with them at `V'`: an input buffer is left
    as found; an output buffer is left, at the points `good`, at the block of `V'` that it is written back to. Nothing is
    owed and every array is held whole. -/
def rdat (cfg : Cfg sig Λ₀) (c : Dev nD) (V V' : Valuation τ sig (Elt F)) (good : Fin cfg.N → Prop) (Φ : Fin (cfg.N + 1) → sProp 𝕄) :
    RDat τ (Elt F) Unit ℕ (UR sig nD τ) ℕ cfg c where
  A w := V (Proc.devRef .tc (Pipeline.arrRef cfg.spec w))
  after w t Y X := if (cfg.win w).isOut = true then
      good t → (cfg.win w).cut (cfg.grid.coords t) X
        = ((cfg.win w).blk t).view.read (Elt F) (V' (Proc.devRef .tc (Pipeline.arrRef cfg.spec w)))
    else X = Y
  Φ := Φ
  q _ := fullShare
  owed _ := 0

section OneWindow

variable {cfg : Cfg sig Λ₀} {c : Dev nD} {V V' : Valuation τ sig (Elt F)} {good : Fin cfg.N → Prop}

/-- Every array is held whole. -/
theorem rdat_share {inv : Fin (cfg.N + 1) → sProp 𝕄} (w : Fin cfg.W) : (rdat cfg c V V' good inv).share w = fullShare := by
  unfold RDat.share; split <;> rfl

/-- An input buffer may be left as found. -/
theorem after_in {inv : Fin (cfg.N + 1) → sProp 𝕄} {w : Fin cfg.W} (hw : (cfg.win w).isOut = false) (t Y) :
    (rdat cfg c V V' good inv).after w t Y Y := by
  show if (cfg.win w).isOut = true then _ else _
  rw [if_neg (by rw [hw]; exact Bool.false_ne_true)]

/-- An input buffer is left only as found. -/
theorem of_after_in {inv : Fin (cfg.N + 1) → sProp 𝕄} {w : Fin cfg.W} (hw : (cfg.win w).isOut = false) (t Y X)
    (h : (rdat cfg c V V' good inv).after w t Y X) : X = Y := by
  have h' : (if (cfg.win w).isOut = true then _ else _) := h
  rwa [if_neg (by rw [hw]; exact Bool.false_ne_true)] at h'

/-- An output buffer may be left at the block of the exit contents. -/
theorem after_out {inv : Fin (cfg.N + 1) → sProp 𝕄} {w : Fin cfg.W} (hw : (cfg.win w).isOut = true) (t Y X)
    (h : good t → (cfg.win w).cut (cfg.grid.coords t) X
        = ((cfg.win w).blk t).view.read (Elt F) (V' (Proc.devRef .tc (Pipeline.arrRef cfg.spec w)))) :
    (rdat cfg c V V' good inv).after w t Y X := by
  show if (cfg.win w).isOut = true then _ else _
  rwa [if_pos hw]

/-- At a point in `good` it is left at nothing else. -/
theorem of_after_out {inv : Fin (cfg.N + 1) → sProp 𝕄} {w : Fin cfg.W} (hw : (cfg.win w).isOut = true) (t Y X)
    (h : (rdat cfg c V V' good inv).after w t Y X) (ht : good t) :
    (cfg.win w).cut (cfg.grid.coords t) X
        = ((cfg.win w).blk t).view.read (Elt F) (V' (Proc.devRef .tc (Pipeline.arrRef cfg.spec w))) := by
  have h' : (if (cfg.win w).isOut = true then _ else _) := h
  rw [if_pos hw] at h'
  exact h' ht

/-- An input window's buffer holds, whenever the body is handed it, what a fetch at that point puts there. -/
theorem finds_input {inv : Fin (cfg.N + 1) → sProp 𝕄} (w : Fin cfg.W) (hw : (cfg.win w).isOut = false)
    (hclip : ∀ t t' : Fin cfg.N, (cfg.win w).index t = (cfg.win w).index t' →
      (cfg.win w).clip (cfg.grid.coords t) = (cfg.win w).clip (cfg.grid.coords t'))
    (t : Fin cfg.N) (Y) (h : (rdat cfg c V V' good inv).Finds w t Y) : ∃ d, Y = (rdat cfg c V V' good inv).fetched w t d :=
  (rdat cfg c V V' good inv).finds_in_eq_fetched w hw hclip (fun t Y X h => of_after_in hw t Y X h) t Y h

/-- An input window none of whose blocks sticks out of the array: the body is handed, at index `j` of its buffer, the array's
    element at index `y`, the block's corner moved by `j`. -/
theorem finds_at {inv : Fin (cfg.N + 1) → sProp 𝕄} (w : Fin cfg.W) (hw : (cfg.win w).isOut = false)
    (hmv : ∀ i j, (cfg.win w).moved i j = true)
    (hclip : ∀ t t' : Fin cfg.N, (cfg.win w).index t = (cfg.win w).index t' →
      (cfg.win w).clip (cfg.grid.coords t) = (cfg.win w).clip (cfg.grid.coords t'))
    (hk : (cfg.win w).kind = .blocked)
    (t : Fin cfg.N) (Y) (h : (rdat cfg c V V' good inv).Finds w t Y) (j : (cfg.win w).block.Idx) (y : (cfg.win w).shape.Idx)
    (hy : ∀ a, (y a).val = (cfg.win w).index t a * (cfg.win w).size a + (j a).val) :
    Y j = _root_.cast (congrArg (Elt F) (cfg.win w).arr.view.elt_eq)
      (V (Proc.devRef .tc (Pipeline.arrRef cfg.spec w)) ((cfg.win w).arr.view.emb y)) := by
  obtain ⟨d, rfl⟩ := finds_input w hw hclip t Y h
  unfold RDat.fetched Window.fill
  rw [dif_pos (hmv _ j)]
  show _root_.cast _ (V (Proc.devRef .tc (Pipeline.arrRef cfg.spec w)) ((cfg.win w).arr.view.emb (((cfg.win w).rect t).emb _))) = _
  congr 2
  congr 1
  funext a; apply Fin.ext
  rw [Window.rect_emb_val _ _ _ _ hk]
  exact (hy a).symm

/-- An output window: the buffer may be left, at each index `j`, at the exit contents' element at the block's corner moved
    by `j`. -/
theorem after_at {inv : Fin (cfg.N + 1) → sProp 𝕄} (w : Fin cfg.W) (hw : (cfg.win w).isOut = true)
    (hk : (cfg.win w).kind = .blocked) (t Y X)
    (h : good t → ∀ j : ((cfg.win w).xblock (cfg.grid.coords t)).Idx, ∃ y : (cfg.win w).shape.Idx,
      (∀ a, (y a).val = (cfg.win w).index t a * (cfg.win w).size a + (j a).val)
        ∧ X ((cfg.win w).xinj (cfg.grid.coords t) j) = _root_.cast (congrArg (Elt F) (cfg.win w).arr.view.elt_eq)
          (V' (Proc.devRef .tc (Pipeline.arrRef cfg.spec w)) ((cfg.win w).arr.view.emb y))) :
    (rdat cfg c V V' good inv).after w t Y X := by
  refine after_out hw t Y X fun hg => ?_
  funext j
  obtain ⟨y, hy, e⟩ := h hg j
  refine e.trans ?_
  show _ = _root_.cast _ (V' (Proc.devRef .tc (Pipeline.arrRef cfg.spec w)) ((cfg.win w).arr.view.emb (((cfg.win w).rect t).emb _)))
  congr 2
  congr 1
  funext a; apply Fin.ext
  rw [Window.rect_emb_val _ _ _ _ hk]
  exact hy a

/-- An input window whose block is its whole array: the body is handed the array itself, read through its own indices. -/
theorem finds_whole {inv : Fin (cfg.N + 1) → sProp 𝕄} (w : Fin cfg.W) (hw : (cfg.win w).isOut = false)
    (hz : ∀ t a, (cfg.win w).index t a = 0) (hmv : ∀ i j, (cfg.win w).moved i j = true)
    (hsz : ∀ a, (cfg.win w).size a = (cfg.win w).shape.size a)
    (hclip : ∀ t t' : Fin cfg.N, (cfg.win w).index t = (cfg.win w).index t' →
      (cfg.win w).clip (cfg.grid.coords t) = (cfg.win w).clip (cfg.grid.coords t'))
    (t : Fin cfg.N) (Y) (h : (rdat cfg c V V' good inv).Finds w t Y) (j : (cfg.win w).block.Idx) :
    Y j = _root_.cast (congrArg (Elt F) (cfg.win w).arr.view.elt_eq)
      (V (Proc.devRef .tc (Pipeline.arrRef cfg.spec w))
        ((cfg.win w).arr.view.emb fun a => ⟨j a, Nat.lt_of_lt_of_eq (j a).isLt (hsz a)⟩)) := by
  obtain ⟨d, rfl⟩ := finds_input w hw hclip t Y h
  unfold RDat.fetched Window.fill
  rw [dif_pos (hmv _ j)]
  show _root_.cast _ (V (Proc.devRef .tc (Pipeline.arrRef cfg.spec w)) ((cfg.win w).arr.view.emb (((cfg.win w).rect t).emb _))) = _
  congr 2
  congr 1
  funext a; apply Fin.ext
  rw [Window.rect_emb_val_of_index_zero _ _ _ (hz t a)]

/-- An output window whose block is its whole array: the buffer may be left at the array's exit contents, read through the
    array's own indices. -/
theorem after_whole {inv : Fin (cfg.N + 1) → sProp 𝕄} (w : Fin cfg.W) (hw : (cfg.win w).isOut = true)
    (hz : ∀ t a, (cfg.win w).index t a = 0) (hsz : ∀ a, (cfg.win w).size a = (cfg.win w).shape.size a) (t Y X)
    (h : ∀ j : (cfg.win w).block.Idx, X j = _root_.cast (congrArg (Elt F) (cfg.win w).arr.view.elt_eq)
      (V' (Proc.devRef .tc (Pipeline.arrRef cfg.spec w))
        ((cfg.win w).arr.view.emb fun a => ⟨j a, Nat.lt_of_lt_of_eq (j a).isLt (hsz a)⟩))) :
    (rdat cfg c V V' good inv).after w t Y X := by
  refine after_out hw t Y X fun _ => ?_
  funext j
  refine (h _).trans ?_
  show _ = _root_.cast _ (V' (Proc.devRef .tc (Pipeline.arrRef cfg.spec w)) ((cfg.win w).arr.view.emb (((cfg.win w).rect t).emb _)))
  congr 2
  congr 1
  funext a; apply Fin.ext
  rw [Window.rect_emb_val_of_index_zero _ _ _ (hz t a)]

/-- After the write-backs below `n`, an element some earlier write-back covered, all points since being `good`, holds its
    exit contents. -/
theorem arr_covered {inv : Fin (cfg.N + 1) → sProp 𝕄} (w : Fin cfg.W) (hw : (cfg.win w).isOut = true) :
    ∀ (n : ℕ) G, (rdat cfg c V V' good inv).ArrAt w n G → ∀ (t : Fin cfg.N) (y), t.val < n → (cfg.win w).flush t = true →
      y ∈ ((cfg.win w).blk t).view.set → (∀ t' : Fin cfg.N, t ≤ t' → good t') →
      G y = V' (Proc.devRef .tc (Pipeline.arrRef cfg.spec w)) y
  | 0, _, _, _, _, h, _, _, _ => absurd h (Nat.not_lt_zero _)
  | n + 1, G, hG, t, y, ht, hf, hy, hgood => by
    by_cases hn : n < cfg.N
    · have hs := (rdat cfg c V V' good inv).ArrAt_succ w ⟨n, hn⟩
      have hG' : (if (cfg.win w).flush ⟨n, hn⟩ then (rdat cfg c V V' good inv).ArrStep w ⟨n, hn⟩ ((rdat cfg c V V' good inv).ArrAt w n)
        else (rdat cfg c V V' good inv).ArrAt w n) G := hs ▸ hG
      by_cases hfn : (cfg.win w).flush ⟨n, hn⟩ = true
      · rw [if_pos hfn] at hG'
        obtain ⟨G₀, X, hG₀, ⟨Y, -, hX⟩, rfl⟩ := hG'
        rw [of_after_out hw _ _ _ hX (hgood _ (Nat.le_of_lt_succ ht))]
        by_cases hyn : y ∈ ((cfg.win w).blk ⟨n, hn⟩).view.set
        · obtain ⟨x, -, rfl⟩ := Finset.mem_map.mp hyn
          rw [View.write_emb_of_mem _ _ (Finset.mem_univ x), View.read_apply, cast_cast, cast_eq]
        · rw [View.write_of_not_mem _ _ _ (by rwa [View.setOn_univ])]
          refine arr_covered w hw n G₀ hG₀ t y ?_ hf hy hgood
          rcases Nat.lt_or_eq_of_le (Nat.le_of_lt_succ ht) with h | h
          · exact h
          · exact absurd ((Fin.ext h : t = ⟨n, hn⟩) ▸ hy) hyn
      · rw [if_neg hfn] at hG'
        refine arr_covered w hw n G hG' t y ?_ hf hy hgood
        rcases Nat.lt_or_eq_of_le (Nat.le_of_lt_succ ht) with h | h
        · exact h
        · exact absurd ((Fin.ext h : t = ⟨n, hn⟩) ▸ hf) hfn
    · have h1 := (rdat cfg c V V' good inv).ArrAt_stable w (n + 1) (by omega)
      have h2 := (rdat cfg c V V' good inv).ArrAt_stable w n (by omega)
      have htn := t.isLt
      exact arr_covered w hw n G (by rw [h2, ← h1]; exact hG) t y (by omega) hf hy hgood

/-- What every array of a launch holds at the end: an input what it began with, a covered output its exit contents. -/
theorem arr_final {inv : Fin (cfg.N + 1) → sProp 𝕄}
    (hin : ∀ w, (cfg.win w).isOut = false → V' (Proc.devRef .tc (Pipeline.arrRef cfg.spec w)) = V (Proc.devRef .tc (Pipeline.arrRef cfg.spec w)))
    (hcov : ∀ w, (cfg.win w).isOut = true → ∀ y : (cfg.win w).arr.view.ty.Idx, ∃ t : Fin cfg.N, (cfg.win w).flush t = true
      ∧ y ∈ (((cfg.win w).blk t).view.set : Finset (cfg.win w).arr.view.ty.Idx)
      ∧ ∀ t' : Fin cfg.N, t ≤ t' → good t') (w : Fin cfg.W) (G) (h : (rdat cfg c V V' good inv).ArrAt w cfg.N G) :
    G = V' (Proc.devRef .tc (Pipeline.arrRef cfg.spec w)) := by
  cases hw : (cfg.win w).isOut
  · rw [(rdat cfg c V V' good inv).ArrAt_in w hw cfg.N] at h
    exact (show G = V _ from h).trans (hin w hw).symm
  · funext y
    obtain ⟨t, hf, hy, hg⟩ := hcov w hw y
    exact arr_covered w hw cfg.N G h t y t.isLt hf hy hg

/-- A write-back of the whole array covers every element of it. -/
theorem covered_whole (w : Fin cfg.W) (t₀ : Fin cfg.N) (hwh : (cfg.win w).WholeAt t₀) (hk : (cfg.win w).kind = .blocked)
    (harr : (cfg.win w).arr.IsWhole) (hg : ∀ t, good t) (y : (cfg.win w).arr.view.ty.Idx) :
    ∃ t : Fin cfg.N, (cfg.win w).flush t = true ∧ y ∈ (((cfg.win w).blk t).view.set : Finset (cfg.win w).arr.view.ty.Idx)
      ∧ ∀ t' : Fin cfg.N, t ≤ t' → good t' := by
  refine ⟨t₀, hwh.1, ?_, fun t _ => hg t⟩
  have hy : y ∈ (cfg.win w).arr.view.set := by rw [harr.set_eq_univ]; exact Finset.mem_univ y
  obtain ⟨j, -, rfl⟩ := Finset.mem_map.mp hy
  refine ((cfg.win w).emb_mem_blk_iff t₀ j hk).mpr fun a => ?_
  obtain ⟨h0, h1⟩ := hwh.2.2 a
  rw [h0, h1]
  have := (j a).isLt
  omega

end OneWindow

/-- The pipelines' admissibility, launch by launch. -/
abbrev adm : (p : Fin 20) → (pcfgs (F := F) p).Adm := fun p => (cfgs p).toPCfg_adm
/-- No kernel recurses. -/
abbrev 𝒱₀ : Variants := Variants.none
/-- No level is assigned: no core owes another anything. -/
abbrev L : GSem nD τ sig → Finset Unit := fun _ => ∅
/-- The level of a wait: all are the same. -/
abbrev lv : GSem nD τ sig → Unit → ℕ := fun _ _ => 0
/-- What rides along beside the buffers: the generator register at some state and nothing owed. -/
abbrev R (c : Dev nD) : sProp 𝕄 := iprop((∃ r, prngReg c r) ∗ ∃ W, owes (c : Thread nD τ) (0 : CellTallies nD τ sig Unit) W)

/-- The thread state between two steps of the program: every unscoped buffer at `W`. -/
abbrev St (W : Dev nD → Valuation τ sig (Elt F)) (c : Dev nD) : sProp 𝕄 :=
  iprop(StableHlo.held (c : Thread nD τ) (Pipeline.ucRefs τ sig) (W c) ∗ R c)

section Region

variable (rdats : (p : Fin 20) → (c : Dev nD) → RDat τ (Elt F) Unit ℕ (UR sig nD τ) ℕ (Pipeline.pin (pcfgs (F := F)) adm p) c)

/-- The arrays after the last write-back stand at some contents that each may then hold. -/
theorem arraysAt_some (p : Fin 20) (c : Dev nD) (n : ℕ) :
    ((rdats p c).arraysAt n : sProp 𝕄) ⊢ iprop(∃ A : (w : Fin (Pipeline.pin (pcfgs (F := F)) adm p).W) →
        Buf (Elt F) (((Pipeline.pin (pcfgs (F := F)) adm p).win w).arr.view.loc (c.tc : Thread nD τ)),
      ⌜∀ w, (rdats p c).ArrAt w n (A w)⌝ ∗ (rdats p c).arrays A) := by
  unfold RDat.arraysAt RDat.arrays
  refine (BI.bigSep_exists_pi Finset.univ _).trans ?_
  iintro ⟨%A, H⟩
  ihave H' := (BI.bigSep_pure_sep Finset.univ (fun w => (rdats p c).ArrAt w n (A w)) _) $$ H
  icases H' with ⟨%hA, H⟩
  iexists A
  isplitr
  · ipureintro; exact fun w => hA w (Finset.mem_univ w)
  iexact H

/-- Exact data with the same arrays and shares, for the splitting of the arrays out of the unscoped buffers. -/
abbrev exact (p : Fin 20) (c : Dev nD) : Dat τ (Elt F) Unit ℕ (UR sig nD τ) ℕ (Pipeline.pin (pcfgs (F := F)) adm p) c :=
  (rdats p c).withAfter fun _ _ _ => Classical.arbitrary _

/-- The exact data hold the arrays as the relational data do. -/
theorem exact_arrays (p : Fin 20) (c : Dev nD) (A) : ((exact rdats p c).arrays A : sProp 𝕄) = (rdats p c).arrays A := rfl

set_option backward.isDefEq.respectTransparency.types false in
/-- A launch as a segment of the program: entered with every unscoped buffer at `W`, left with them at `W'`, where `W'` has
    each array of the launch at the only contents it may end with (`hF`) and every other buffer as in `W` (`hrest`). -/
def region (p : Fin 20) (kit : Pipeline.LaunchFacts (nD := nD) (τ := τ) cfgs p) (W W' : Dev nD → Valuation τ sig (Elt F))
    (hbody : ∀ c, (rdats p c).BodyObligation defs₀ 𝒱₀ () Set.univ)
    (hA : ∀ c w, (rdats p c).A w = W c (Proc.devRef .tc (Pipeline.arrRef (Pipeline.pin (pcfgs (F := F)) adm p).spec w)))
    (howed : ∀ c t, (rdats p c).owed t = 0) (hrec : ∀ c, (rdats p c).recorded 0 = Set.univ)
    (hshare : ∀ c w, (rdats p c).share w = fullShare)
    (hΦ₀ : ∀ c, Pipeline.ΦA (Pipeline.pin (pcfgs (F := F)) adm p).spec c ⊢ (rdats p c).Φ 0)
    (hΦ₁ : ∀ c, (rdats p c).Φ (Fin.last _) ⊢ Pipeline.ΦA (Pipeline.pin (pcfgs (F := F)) adm p).spec c)
    (hF : ∀ c w G, (rdats p c).ArrAt w (Pipeline.pin (pcfgs (F := F)) adm p).N G →
      G = W' c (Proc.devRef .tc (Pipeline.arrRef (Pipeline.pin (pcfgs (F := F)) adm p).spec w)))
    (hrest : ∀ c b, b ∉ Finset.univ.image (Pipeline.arrRef (Pipeline.pin (pcfgs (F := F)) adm p).spec) →
      W' c (Proc.devRef .tc b) = W c (Proc.devRef .tc b)) :
    Pipeline.RDat.RegionSeg (pcfgs (F := F)) adm rdats () defs₀ 𝒱₀ L lv p where
  win := kit.win.to₀
  block_pos := kit.block_pos
  stage_whole := kit.stage_whole
  K := PEmpty
  osem k := k.elim
  ho := Pipeline.OwnSemFacts.none _
  hbody := hbody
  hwaits c := (show (levAts L lv : sProp 𝕄) ⊢ BI.emp from by iintro -; iempintro).trans
    (Pipeline.RDat.cellsWaits_of_owed_zero (Pipeline.pin (pcfgs (F := F)) adm) rdats () p c (howed c))
  pre := St W
  post := St W'
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    (fun b => W c (Proc.devRef .tc b))
  hentry c := by
    rw [Pipeline.ownSems0_none]
    have hsplit := Pipeline.arrays_of_unscopedBufs (p := p) (pcfgs (F := F)) adm (exact rdats) kit.win kit.arr_whole c
      (hshare c) (fun b => W c (Proc.devRef .tc b)) (hA c)
    rw [Pipeline.unscopedBufs_held, exact_arrays] at hsplit
    iintro ⟨⟨Hub, Hp, HO⟩, -, -⟩
    ihave H := hsplit $$ Hub
    icases H with ⟨Ha, Hrest⟩
    imodintro
    isplitl [Ha]; · iexact Ha
    isplitr; · rw [Pipeline.prefHeld_of_none _ rfl]; iempintro
    isplitl [HO]
    · unfold Pipeline.RDat.owesAt Pipeline.owesWithin Pipeline.RDat.bound
      rw [howed c 0, hrec c]
      icases HO with ⟨%Wd, HO⟩; iexists Wd; isplitr; · ipureintro; exact fun _ _ => Or.inl trivial
      iexact HO
    isplitl [Hp]; · iexact Hp
    iexact Hrest
  hin c := (show _ ⊢ Pipeline.ΦA (Pipeline.pin (pcfgs (F := F)) adm p).spec c from by
    unfold Pipeline.ΦA
    iintro ⟨Hp, -, Hr⟩
    isplitl [Hr]; · iexact Hr
    iexact Hp).trans (hΦ₀ c)
  hout c := (hΦ₁ c).trans (by
    rw [Pipeline.ownSems0_none]; unfold Pipeline.ΦA
    iintro ⟨Hr, Hp⟩
    isplitl [Hp]; · iexact Hp
    isplitr; · iempintro
    iexact Hr)
  hexit c := by
    iintro ⟨Ha, HO, HY, Hrest⟩
    ihave Ha := (arraysAt_some rdats p c _) $$ Ha
    icases Ha with ⟨%A, %hG, Ha⟩
    have hjoin := Pipeline.unscopedBufs_of_arrays (p := p) (pcfgs (F := F)) adm (Ix := Unit) (Name := ℕ) (U := UR sig nD τ) (Lvl := ℕ)
      kit.win kit.arr_whole c (exact rdats) (hshare c)
      (fun b => W c (Proc.devRef .tc b)) (fun b => W' c (Proc.devRef .tc b)) A (fun w => hF c w _ (hG w)) (hrest c)
    rw [Pipeline.unscopedBufs_held, exact_arrays] at hjoin
    imodintro
    isplitl [Ha Hrest]
    · iapply hjoin
      isplitl [Ha]; · iexact Ha
      iexact Hrest
    isplitl [HY]; · iexact HY
    unfold Pipeline.RDat.owesAt Pipeline.owesWithin
    rw [howed c (Fin.last _)]
    icases HO with ⟨%Wd, -, HO⟩; iexists Wd; iexact HO

/-- The region of a launch whose data are `rdat` and which writes each of its outputs back whole, once. -/
def regionWhole (p : Fin 20) (kit : Pipeline.LaunchFacts (nD := nD) (τ := τ) cfgs p) (W W' : Dev nD → Valuation τ sig (Elt F))
    (hrd : ∀ c, rdats p c = rdat (Pipeline.pin (pcfgs (F := F)) adm p) c (W c) (W' c) (fun _ => True)
      fun _ => Pipeline.ΦA (Pipeline.pin (pcfgs (F := F)) adm p).spec c)
    (hbody : ∀ c, (rdats p c).BodyObligation defs₀ 𝒱₀ () Set.univ)
    (hin : ∀ c w, ((Pipeline.pin (pcfgs (F := F)) adm p).win w).isOut = false →
      W' c (Proc.devRef .tc (Pipeline.arrRef (Pipeline.pin (pcfgs (F := F)) adm p).spec w))
        = W c (Proc.devRef .tc (Pipeline.arrRef (Pipeline.pin (pcfgs (F := F)) adm p).spec w)))
    (t₀ : Fin (Pipeline.pin (pcfgs (F := F)) adm p).N)
    (hwh : ∀ w, ((Pipeline.pin (pcfgs (F := F)) adm p).win w).isOut = true →
      ((Pipeline.pin (pcfgs (F := F)) adm p).win w).WholeAt t₀ ∧ ((Pipeline.pin (pcfgs (F := F)) adm p).win w).kind = .blocked)
    (hrest : ∀ c b, b ∉ Finset.univ.image (Pipeline.arrRef (Pipeline.pin (pcfgs (F := F)) adm p).spec) →
      W' c (Proc.devRef .tc b) = W c (Proc.devRef .tc b)) :
    Pipeline.RDat.RegionSeg (pcfgs (F := F)) adm rdats () defs₀ 𝒱₀ L lv p :=
  region rdats p kit W W' hbody (fun c w => by rw [hrd c]; rfl) (fun c t => by rw [hrd c]; rfl) (fun c => by rw [hrd c]; rfl)
    (fun c w => by rw [hrd c]; exact rdat_share w) (fun c => by rw [hrd c]; exact .rfl) (fun c => by rw [hrd c]; exact .rfl)
    (fun c w G h => by
      rw [hrd c] at h
      exact arr_final (hin c) (fun w hw y => covered_whole w t₀ (hwh w hw).1 (hwh w hw).2 (kit.arr_whole w) (fun _ => trivial) y) w G h)
    hrest

end Region

/-- The buffers with buffer `b` at `v`. -/
def upd (W : Valuation τ sig (Elt F)) (b : Ref sig .tc) (v : (Proc.devRef (τ := τ) .tc b).ty.Contents (Elt F)) : Valuation τ sig (Elt F) :=
  Function.update W (Proc.devRef .tc b) v

/-- The replaced buffer holds the new contents. -/
theorem upd_self (W : Valuation τ sig (Elt F)) (b : Ref sig .tc) (v) : upd W b v (Proc.devRef .tc b) = v :=
  Function.update_self _ _ _

/-- Another buffer keeps its contents. -/
theorem upd_of_ne (W : Valuation τ sig (Elt F)) (b : Ref sig .tc) (v) (b' : Ref sig .tc) (h : b' ≠ b) :
    upd W b v (Proc.devRef .tc b') = W (Proc.devRef .tc b') :=
  Function.update_of_ne (fun e => h (Proc.devRef_injective .tc e)) _ _

end Cert.KernelIdeal.Value

end
-- ==== Proof.Bodies.lean ====
/- The eight kernel bodies, each run once over arbitrary memrefs: what it leaves in its output buffers is the printed
   payload of what its input buffers hold. -/
module

public import proofs.«01_k».proof.Proof.Kit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- A buffer that is stored over whole reads as what was stored. -/
theorem store_whole {sp : Space} {s : Shape} {e : EltTy} (v : View sig .tc sp s e) (f) {off : Fin s.rank → ℕ}
    (hoff : ∀ a, off a = 0) (inb) (p : Vec F s e) :
    v.read (Elt F) (v.writes (Elt F) f [⟨Rect.unit (s := s) off s.size inb, p⟩]) = p := by
  have h := funext hoff
  rw [View.read_writes_eq_canon _ _ _ fun y => ⟨_, List.mem_singleton_self _, View.mem_set_unit_zero h inb y⟩]
  exact View.canon_unit_zero h inb p

/-- A whole buffer's load reads its contents. -/
theorem load_whole {sp : Space} {s : Shape} {e : EltTy} (v : View sig .tc sp s e) (f) {off : Fin s.rank → ℕ}
    (hoff : ∀ a, off a = 0) (inb) :
    v.readAt (Elt F) (Rect.unit (s := s) off (no_index s.size) inb).toLoadRect f = v.read (Elt F) f :=
  View.ld_unit_lit inb (v.read (Elt F) f) hoff

/-- The left half of a wide array. -/
abbrev lo (x : Vec F S2048x256 .f32) : Vec F S2048x128 .f32 :=
  View.ld x (Rect.unit (s := S2048x256) ![0, 0] S2048x128.size inb_S2048x256_S2048x128_0_0)
/-- The right half. -/
abbrev hi (x : Vec F S2048x256 .f32) : Vec F S2048x128 .f32 :=
  View.ld x (Rect.unit (s := S2048x256) ![0, 128] S2048x128.size inb_S2048x256_S2048x128_0_128)

/-- A product launch's payload: of the two halves and the matrix. -/
abbrev PairPay (F : FTy → Type) := Vec F S2048x128 .f32 → Vec F S2048x128 .f32 → Vec F S2048x2048 .bf16 → Vec F S2048x256 .f32

/-- The program of every product launch, over its payload. -/
def pairProg (pay : PairPay F) (arg0 : Memref sig .tc .vmem S2048x2048 .bf16) (arg1 : Memref sig .tc .vmem S2048x128 .f32)
    (arg2 : Memref sig .tc .vmem S2048x128 .f32) (arg3 : Memref sig .tc .vmem S2048x256 .f32) :
    Prog (TpuEff nD τ sig (Elt F) Λ₀ .tc) PUnit := do
  let v0 : Vec F S2048x128 .f32 ← Prog.lift (.load arg1 (Rect.unit (s := S2048x128) ![0, 0] S2048x128.size inb_S2048x128_S2048x128_0_0).toLoadRect (View.loadsAt_vmem h_S2048x128))
  let v1 : Vec F S2048x128 .f32 ← Prog.lift (.load arg2 (Rect.unit (s := S2048x128) ![0, 0] S2048x128.size inb_S2048x128_S2048x128_0_0).toLoadRect (View.loadsAt_vmem h_S2048x128))
  let v4 : Vec F S2048x2048 .bf16 ← Prog.lift (.load arg0 (Rect.unit (s := S2048x2048) ![0, 0] S2048x2048.size inb_S2048x2048_S2048x2048_0_0).toLoadRect (View.loadsAt_vmem h_S2048x2048))
  let v7 : Vec F S2048x256 .f32 ← Prog.lift (.load arg3 (Rect.unit (s := S2048x256) ![0, 0] S2048x256.size inb_S2048x256_S2048x256_0_0).toLoadRect (View.loadsAt_vmem h_S2048x256))
  Prog.lift (.store arg3 (Rect.unit (s := S2048x256) ![0, 0] S2048x256.size inb_S2048x256_S2048x256_0_0) (pay v0 v1 v4) Finset.univ (View.stores_vmem_bits_univ h_S2048x256 rfl) (.inl rfl))
  pure ⟨⟩

set_option maxHeartbeats 1000000 in
/-- A product launch's body leaves its payload in the output buffer and the inputs as they were. -/
theorem pair_wp (pay : PairPay F) (c : Dev nD) (E : Set ℕ) (Φ O : sProp 𝕄) (arg0 : Memref sig .tc .vmem S2048x2048 .bf16)
    (arg1 : Memref sig .tc .vmem S2048x128 .f32) (arg2 : Memref sig .tc .vmem S2048x128 .f32)
    (arg3 : Memref sig .tc .vmem S2048x256 .f32)
    (x0 : Vec F S2048x2048 .bf16) (x1 x2 : Vec F S2048x128 .f32) (y3 : Vec F S2048x256 .f32)
    {P0 : Vec F S2048x2048 .bf16 → Prop} {P1 : Vec F S2048x128 .f32 → Prop} {P2 : Vec F S2048x128 .f32 → Prop} {P3 : Vec F S2048x256 .f32 → Prop}
    (h0 : P0 (x0)) (h1 : P1 (x1)) (h2 : P2 (x2)) (h3 : P3 (pay x1 x2 x0)) :
    iprop(Φ ∗ O ∗ owns (c : Thread nD τ) arg0 fullShare x0 ∗ owns (c : Thread nD τ) arg1 fullShare x1
        ∗ owns (c : Thread nD τ) arg2 fullShare x2 ∗ owns (c : Thread nD τ) arg3 fullShare y3)
      ⊢ wp frame (wpE (defs₀ (F := F)) Variants.none c none) E (pairProg pay arg0 arg1 arg2 arg3) fun _ =>
        iprop(Φ ∗ O ∗ (∃ X, ⌜P0 X⌝ ∗ owns (c : Thread nD τ) arg0 fullShare X) ∗ (∃ X, ⌜P1 X⌝ ∗ owns (c : Thread nD τ) arg1 fullShare X)
          ∗ (∃ X, ⌜P2 X⌝ ∗ owns (c : Thread nD τ) arg2 fullShare X)
          ∗ (∃ X, ⌜P3 X⌝ ∗ owns (c : Thread nD τ) arg3 fullShare X)) := by
  unfold pairProg owns
  iintro ⟨HΦ, HO, ⟨%f0, %hf0, H0⟩, ⟨%f1, %hf1, H1⟩, ⟨%f2, %hf2, H2⟩, ⟨%f3, -, H3⟩⟩
  subst hf0 hf1 hf2
  sl_exec
  sl_step
  simp (discharger := decide) only [load_whole]
  isplitl [HΦ]; · iexact HΦ
  isplitl [HO]; · iexact HO
  isplitl [H0]
  · iexists _; isplitr; · ipureintro; exact h0
    iexists f0; isplitr; · ipureintro; rfl
    iexact H0
  isplitl [H1]
  · iexists _; isplitr; · ipureintro; exact h1
    iexists f1; isplitr; · ipureintro; rfl
    iexact H1
  isplitl [H2]
  · iexists _; isplitr; · ipureintro; exact h2
    iexists f2; isplitr; · ipureintro; rfl
    iexact H2
  iexists _; isplitr; · ipureintro; exact h3
  iexists _; isplitr
  swap; · iexact H3
  ipureintro
  refine store_whole (F := F) _ _ ?_ _ _; decide

/-- What a combining launch leaves: of the weight, the four halves and the two arrays carried over. -/
abbrev CombPay (F : FTy → Type) := Vec F S128x128 .f32 → Vec F S2048x128 .f32 → Vec F S2048x128 .f32 → Vec F S2048x128 .f32 →
  Vec F S2048x128 .f32 → Vec F S2048x128 .f32 → Vec F S2048x128 .f32 → Vec F S2048x128 .f32

/-- The program of every combining launch, over its two payloads. -/
def combProg (pay₁ pay₂ : CombPay F) (arg0 arg1 : Memref sig .tc .vmem S2048x256 .f32) (arg2 : Memref sig .tc .vmem S128x128 .f32)
    (arg3 arg4 arg5 arg6 : Memref sig .tc .vmem S2048x128 .f32) :
    Prog (TpuEff nD τ sig (Elt F) Λ₀ .tc) PUnit := do
  let v0 : Vec F S128x128 .f32 ← Prog.lift (.load arg2 (Rect.unit (s := S128x128) ![0, 0] S128x128.size inb_S128x128_S128x128_0_0).toLoadRect (View.loadsAt_vmem h_S128x128))
  let v2 : Vec F S2048x128 .f32 ← Prog.lift (.load arg0 (Rect.unit (s := S2048x256) ![0, 0] S2048x128.size inb_S2048x256_S2048x128_0_0).toLoadRect (View.loadsAt_vmem h_S2048x128))
  let v5 : Vec F S2048x128 .f32 ← Prog.lift (.load arg0 (Rect.unit (s := S2048x256) ![0, 128] S2048x128.size inb_S2048x256_S2048x128_0_128).toLoadRect (View.loadsAt_vmem h_S2048x128))
  let v8 : Vec F S2048x128 .f32 ← Prog.lift (.load arg1 (Rect.unit (s := S2048x256) ![0, 0] S2048x128.size inb_S2048x256_S2048x128_0_0).toLoadRect (View.loadsAt_vmem h_S2048x128))
  let v11 : Vec F S2048x128 .f32 ← Prog.lift (.load arg1 (Rect.unit (s := S2048x256) ![0, 128] S2048x128.size inb_S2048x256_S2048x128_0_128).toLoadRect (View.loadsAt_vmem h_S2048x128))
  let v14 : Vec F S2048x128 .f32 ← Prog.lift (.load arg3 (Rect.unit (s := S2048x128) ![0, 0] S2048x128.size inb_S2048x128_S2048x128_0_0).toLoadRect (View.loadsAt_vmem h_S2048x128))
  let v15 : Vec F S2048x128 .f32 ← Prog.lift (.load arg4 (Rect.unit (s := S2048x128) ![0, 0] S2048x128.size inb_S2048x128_S2048x128_0_0).toLoadRect (View.loadsAt_vmem h_S2048x128))
  let v29 : Vec F S2048x128 .f32 ← Prog.lift (.load arg5 (Rect.unit (s := S2048x128) ![0, 0] S2048x128.size inb_S2048x128_S2048x128_0_0).toLoadRect (View.loadsAt_vmem h_S2048x128))
  Prog.lift (.store arg5 (Rect.unit (s := S2048x128) ![0, 0] S2048x128.size inb_S2048x128_S2048x128_0_0) (pay₁ v0 v2 v5 v8 v11 v14 v15) Finset.univ (View.stores_vmem_bits_univ h_S2048x128 rfl) (.inl rfl))
  let v31 : Vec F S2048x128 .f32 ← Prog.lift (.load arg6 (Rect.unit (s := S2048x128) ![0, 0] S2048x128.size inb_S2048x128_S2048x128_0_0).toLoadRect (View.loadsAt_vmem h_S2048x128))
  Prog.lift (.store arg6 (Rect.unit (s := S2048x128) ![0, 0] S2048x128.size inb_S2048x128_S2048x128_0_0) (pay₂ v0 v2 v5 v8 v11 v14 v15) Finset.univ (View.stores_vmem_bits_univ h_S2048x128 rfl) (.inl rfl))
  pure ⟨⟩

set_option maxHeartbeats 1000000 in
/-- A combining launch's body leaves its two payloads in the two output buffers and the inputs as they were. -/
theorem comb_wp (pay₁ pay₂ : CombPay F) (c : Dev nD) (E : Set ℕ) (Φ O : sProp 𝕄) (arg0 arg1 : Memref sig .tc .vmem S2048x256 .f32)
    (arg2 : Memref sig .tc .vmem S128x128 .f32) (arg3 arg4 arg5 arg6 : Memref sig .tc .vmem S2048x128 .f32)
    (x0 x1 : Vec F S2048x256 .f32) (x2 : Vec F S128x128 .f32) (x3 x4 y5 y6 : Vec F S2048x128 .f32)
    {P0 : Vec F S2048x256 .f32 → Prop} {P1 : Vec F S2048x256 .f32 → Prop} {P2 : Vec F S128x128 .f32 → Prop} {P3 : Vec F S2048x128 .f32 → Prop} {P4 : Vec F S2048x128 .f32 → Prop} {P5 : Vec F S2048x128 .f32 → Prop} {P6 : Vec F S2048x128 .f32 → Prop}
    (h0 : P0 (x0)) (h1 : P1 (x1)) (h2 : P2 (x2)) (h3 : P3 (x3)) (h4 : P4 (x4)) (h5 : P5 (pay₁ x2 (lo x0) (hi x0) (lo x1) (hi x1) x3 x4)) (h6 : P6 (pay₂ x2 (lo x0) (hi x0) (lo x1) (hi x1) x3 x4)) :
    iprop(Φ ∗ O ∗ owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare y5 ∗ owns (c : Thread nD τ) arg6 fullShare y6)
      ⊢ wp frame (wpE (defs₀ (F := F)) Variants.none c none) E (combProg pay₁ pay₂ arg0 arg1 arg2 arg3 arg4 arg5 arg6) fun _ =>
        iprop(Φ ∗ O ∗ (∃ X, ⌜P0 X⌝ ∗ owns (c : Thread nD τ) arg0 fullShare X) ∗ (∃ X, ⌜P1 X⌝ ∗ owns (c : Thread nD τ) arg1 fullShare X)
          ∗ (∃ X, ⌜P2 X⌝ ∗ owns (c : Thread nD τ) arg2 fullShare X) ∗ (∃ X, ⌜P3 X⌝ ∗ owns (c : Thread nD τ) arg3 fullShare X)
          ∗ (∃ X, ⌜P4 X⌝ ∗ owns (c : Thread nD τ) arg4 fullShare X)
          ∗ (∃ X, ⌜P5 X⌝ ∗ owns (c : Thread nD τ) arg5 fullShare X)
          ∗ (∃ X, ⌜P6 X⌝ ∗ owns (c : Thread nD τ) arg6 fullShare X)) := by
  unfold combProg owns
  iintro ⟨HΦ, HO, ⟨%f0, %hf0, H0⟩, ⟨%f1, %hf1, H1⟩, ⟨%f2, %hf2, H2⟩, ⟨%f3, %hf3, H3⟩, ⟨%f4, %hf4, H4⟩, ⟨%f5, -, H5⟩, ⟨%f6, -, H6⟩⟩
  subst hf0 hf1 hf2 hf3 hf4
  sl_exec
  sl_step
  simp (discharger := decide) only [load_whole]
  isplitl [HΦ]; · iexact HΦ
  isplitl [HO]; · iexact HO
  isplitl [H0]
  · iexists _; isplitr; · ipureintro; exact h0
    iexists f0; isplitr; · ipureintro; rfl
    iexact H0
  isplitl [H1]
  · iexists _; isplitr; · ipureintro; exact h1
    iexists f1; isplitr; · ipureintro; rfl
    iexact H1
  isplitl [H2]
  · iexists _; isplitr; · ipureintro; exact h2
    iexists f2; isplitr; · ipureintro; rfl
    iexact H2
  isplitl [H3]
  · iexists _; isplitr; · ipureintro; exact h3
    iexists f3; isplitr; · ipureintro; rfl
    iexact H3
  isplitl [H4]
  · iexists _; isplitr; · ipureintro; exact h4
    iexists f4; isplitr; · ipureintro; rfl
    iexact H4
  isplitl [H5]
  · iexists _; isplitr; · ipureintro; exact h5
    iexists _; isplitr
    swap; · iexact H5
    ipureintro
    refine store_whole (F := F) _ _ ?_ _ _; decide
  iexists _; isplitr; · ipureintro; exact h6
  iexists _; isplitr
  swap; · iexact H6
  ipureintro
  refine store_whole (F := F) _ _ ?_ _ _; decide

set_option maxHeartbeats 1000000 in
/-- The head launch's body leaves its payload in the output buffer and the inputs as they were. -/
theorem head_wp (c : Dev nD) (E : Set ℕ) (Φ O : sProp 𝕄) (arg0 : Memref sig .tc .vmem S2048x128 .f32) (harg0 : arg0.IsWhole)
    (arg1 : Memref sig .tc .vmem S2048x128 .f32) (harg1 : arg1.IsWhole) (arg2 : Memref sig .tc .vmem S2x256 .f32) (harg2 : arg2.IsWhole)
    (arg3 : Memref sig .tc .vmem S2x1 .f32) (harg3 : arg3.IsWhole) (arg4 : Memref sig .tc .vmem S2x2048 .f32) (harg4 : arg4.IsWhole)
    (x0 x1 : Vec F S2048x128 .f32) (x2 : Vec F S2x256 .f32) (x3 : Vec F S2x1 .f32) (y4 : Vec F S2x2048 .f32)
    {P0 : Vec F S2048x128 .f32 → Prop} {P1 : Vec F S2048x128 .f32 → Prop} {P2 : Vec F S2x256 .f32 → Prop} {P3 : Vec F S2x1 .f32 → Prop} {P4 : Vec F S2x2048 .f32 → Prop}
    (h0 : P0 (x0)) (h1 : P1 (x1)) (h2 : P2 (x2)) (h3 : P3 (x3)) (h4 : P4 (k19_pay1 x0 x1 x2 x3)) :
    iprop(Φ ∗ O ∗ owns (c : Thread nD τ) arg0 fullShare x0 ∗ owns (c : Thread nD τ) arg1 fullShare x1
        ∗ owns (c : Thread nD τ) arg2 fullShare x2 ∗ owns (c : Thread nD τ) arg3 fullShare x3 ∗ owns (c : Thread nD τ) arg4 fullShare y4)
      ⊢ wp frame (wpE (defs₀ (F := F)) Variants.none c none) E (cc19__head_body arg0 harg0 arg1 harg1 arg2 harg2 arg3 harg3 arg4 harg4) fun _ =>
        iprop(Φ ∗ O ∗ (∃ X, ⌜P0 X⌝ ∗ owns (c : Thread nD τ) arg0 fullShare X) ∗ (∃ X, ⌜P1 X⌝ ∗ owns (c : Thread nD τ) arg1 fullShare X)
          ∗ (∃ X, ⌜P2 X⌝ ∗ owns (c : Thread nD τ) arg2 fullShare X) ∗ (∃ X, ⌜P3 X⌝ ∗ owns (c : Thread nD τ) arg3 fullShare X)
          ∗ (∃ X, ⌜P4 X⌝ ∗ owns (c : Thread nD τ) arg4 fullShare X)) := by
  simp only [cc19__head_body_eq_skeleton]; unfold cc19__head_body_skel owns
  iintro ⟨HΦ, HO, ⟨%f0, %hf0, H0⟩, ⟨%f1, %hf1, H1⟩, ⟨%f2, %hf2, H2⟩, ⟨%f3, %hf3, H3⟩, ⟨%f4, -, H4⟩⟩
  subst hf0 hf1 hf2 hf3
  sl_exec
  sl_step
  simp (discharger := decide) only [load_whole]
  isplitl [HΦ]; · iexact HΦ
  isplitl [HO]; · iexact HO
  isplitl [H0]
  · iexists _; isplitr; · ipureintro; exact h0
    iexists f0; isplitr; · ipureintro; rfl
    iexact H0
  isplitl [H1]
  · iexists _; isplitr; · ipureintro; exact h1
    iexists f1; isplitr; · ipureintro; rfl
    iexact H1
  isplitl [H2]
  · iexists _; isplitr; · ipureintro; exact h2
    iexists f2; isplitr; · ipureintro; rfl
    iexact H2
  isplitl [H3]
  · iexists _; isplitr; · ipureintro; exact h3
    iexists f3; isplitr; · ipureintro; rfl
    iexact H3
  iexists _; isplitr; · ipureintro; exact h4
  iexists _; isplitr
  swap; · iexact H4
  ipureintro
  refine store_whole (F := F) _ _ ?_ _ _; decide

end Cert.KernelIdeal.Value

end
-- ==== Proof.Constr.lean ====
/- The constraint launches: a matrix assembled in two passes over eight blocks of rows, the first pass kept in scratch. -/
module

public import proofs.«01_k».proof.Proof.Bodies
public import Idealize.ShloMosaic.Lib.ValueIdxCore
public import Idealize.ShloMosaic.Lib.WritesUnit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (idx2_lt0 idx2_lt1)
open Cert.KernelIdeal.Gen

variable {F : FTy → Type} [FloatOps F]

local notation "𝕄" => MT nD τ sig Unit (Elt F) ℕ (UR sig nD τ) ℕ

/-- The point of the launches' grid at pass `k` and row block `b`. -/
def pnt (k : Fin 2) (b : Fin 8) : Fin grid9.N := ⟨8 * k.val + b.val, by rw [show grid9.N = 16 by decide]; omega⟩

/-- Its coordinates. -/
abbrev crd (k : Fin 2) (b : Fin 8) : grid9.Coords := grid9.coords (pnt k b)

/-- Rows `256 b` to `256 b + 255` of an array. -/
def rowBlk {α : Type} {w : ℕ} (A : (⟨2, ![2048, w]⟩ : Shape).Idx → α) (b : Fin 8) : (⟨2, ![256, w]⟩ : Shape).Idx → α :=
  fun x => A (ValueIdx.ix2 ⟨256 * b.val + (x 0).val, by have := idx2_lt0 x; omega⟩ ⟨(x 1).val, idx2_lt1 x⟩)

/-- Eight blocks of rows put under one another. -/
def stack {α : Type} {w : ℕ} (f : Fin 8 → (⟨2, ![256, w]⟩ : Shape).Idx → α) : (⟨2, ![2048, w]⟩ : Shape).Idx → α :=
  fun y => f ⟨(y 0).val / 256, by have := idx2_lt0 y; omega⟩ (ValueIdx.ix2 ⟨(y 0).val % 256, by omega⟩ ⟨(y 1).val, idx2_lt1 y⟩)

/-- A stack read at row `x` of block `b`. -/
theorem stack_apply {α : Type} {w : ℕ} (f : Fin 8 → (⟨2, ![256, w]⟩ : Shape).Idx → α) (b : Fin 8) (x : (⟨2, ![256, w]⟩ : Shape).Idx)
    (y : (⟨2, ![2048, w]⟩ : Shape).Idx) (h0 : (y 0).val = 256 * b.val + (x 0).val) (h1 : (y 1).val = (x 1).val) : stack f y = f b x := by
  have hx := idx2_lt0 x
  have e0 : ∀ h, (⟨(y 0).val / 256, h⟩ : Fin 8) = b := fun h => Fin.ext (by show (y 0).val / 256 = b.val; omega)
  have e1 : ∀ h, (⟨(y 0).val % 256, h⟩ : Fin 256) = x 0 := fun h => Fin.ext (by show (y 0).val % 256 = (x 0).val; omega)
  have e2 : ∀ h, (⟨(y 1).val, h⟩ : Fin w) = x 1 := fun h => Fin.ext h1
  unfold stack
  rw [e0, e1, e2]
  exact congrArg (f b) (ValueIdx.eq_ix2 x).symm

/-- A block of rows of a stack is the block stacked there. -/
theorem rowBlk_stack {α : Type} {w : ℕ} (f : Fin 8 → (⟨2, ![256, w]⟩ : Shape).Idx → α) (b : Fin 8) : rowBlk (stack f) b = f b :=
  funext fun x => stack_apply f b x _ rfl rfl

/-- Slab `k` of the two stacked transposes. -/
def slab {α : Type} (Q : S2x500x2048.Idx → α) (k : Fin 2) : S1x500x2048.Idx → α := fun x => Q (ValueIdx.ix3 k (x 1) (x 2))

/-- What the first pass leaves of block `b`. -/
abbrev Pay₂ (F : FTy → Type) := grid9.Coords → Vec F S1x500 .f32 → Vec F S256x500 .f32 → Vec F S256x500 .f32 → Vec F S1x500x2048 .bf16 → Vec F S256x2048 .f32
/-- What the second pass writes of block `b`. -/
abbrev Pay₃ (F : FTy → Type) := grid9.Coords → Vec F S1x500 .f32 → Vec F S256x500 .f32 → Vec F S256x500 .f32 → Vec F S1x500x2048 .bf16 → Vec F S256x2048 .f32 → Vec F S256x2048 .bf16

/-- The first pass's block `b`, of the whole arrays. -/
def first (pay₂ : Pay₂ F) (A B : Vec F S2048x500 .f32) (Q : Vec F S2x500x2048 .bf16) (T : Vec F S1x500 .f32) (b : Fin 8) : Vec F S256x2048 .f32 :=
  pay₂ (crd 0 b) T (rowBlk A b) (rowBlk B b) (slab Q 0)

/-- The array a constraint launch writes, of the whole arrays it reads. -/
def constr (pay₂ : Pay₂ F) (pay₃ : Pay₃ F) (A B : Vec F S2048x500 .f32) (Q : Vec F S2x500x2048 .bf16) (T : Vec F S1x500 .f32) : Vec F S2048x2048 .bf16 :=
  stack fun b => pay₃ (crd 1 b) T (rowBlk A b) (rowBlk B b) (slab Q 1) (first pay₂ A B Q T b)

/-- The scratch buffer with its first `n` blocks of rows those of `f`. -/
def heldRows (f : Fin 8 → Vec F S256x2048 .f32) (n : ℕ) (c : Dev nD) (arg7 : Memref sig .tc .vmem S2048x2048 .f32) : sProp 𝕄 :=
  iprop(∃ S, ⌜∀ y : S2048x2048.Idx, (y 0).val < 256 * n → S y = stack f y⌝ ∗ owns (c : Thread nD τ) arg7 fullShare S)

/-- A constraint launch's program at a point, over its two payloads. -/
def constrProg (pay₂ : Pay₂ F) (pay₃ : Pay₃ F)
    (i : grid9.Coords) (arg2 arg3 : Memref sig .tc .vmem S256x500 .f32) (arg4 : Memref sig .tc .vmem S1x500x2048 .bf16)
    (arg5 : Memref sig .tc .vmem S1x500 .f32) (arg6 : Memref sig .tc .vmem S256x2048 .bf16) (harg6 : arg6.IsWhole)
    (arg7 : Memref sig .tc .vmem S2048x2048 .f32) : Prog (TpuEff nD τ sig (Elt F) Λ₀ .tc) PUnit := do
  let v0 : Vec F S1x500 .f32 ← Prog.lift (.load arg5 (Rect.unit (s := S1x500) ![0, 0] S1x500.size inb_S1x500_S1x500_0_0).toLoadRect (View.loadsAt_vmem h_S1x500))
  let v3 : Vec F S256x500 .f32 ← Prog.lift (.load arg2 (Rect.unit (s := S256x500) ![0, 0] S256x500.size inb_S256x500_S256x500_0_0).toLoadRect (View.loadsAt_vmem h_S256x500))
  let v4 : Vec F S256x500 .f32 ← Prog.lift (.load arg3 (Rect.unit (s := S256x500) ![0, 0] S256x500.size inb_S256x500_S256x500_0_0).toLoadRect (View.loadsAt_vmem h_S256x500))
  let v9 : Vec F S1x500x2048 .bf16 ← Prog.lift (.load arg4 (Rect.unit (s := S1x500x2048) ![0, 0, 0] S1x500x2048.size inb_S1x500x2048_S1x500x2048_0_0_0).toLoadRect (View.loadsAt_vmem h_S1x500x2048))
  if k9_h1 : k9_cond1 i = 1#1 then do
    let v20 : Vec F S256x2048 .f32 ← Prog.lift (.load arg7 (Rect.unit (s := S2048x2048) (k9_off1 i) S256x2048.size (k9_off1_inb i k9_h1)).toLoadRect (View.loadsAt_vmem h_S256x2048))
    Prog.lift (.store arg7 (Rect.unit (s := S2048x2048) (k9_off1 i) S256x2048.size (k9_off1_inb i k9_h1)) (pay₂ i v0 v3 v4 v9) Finset.univ (View.stores_vmem_bits_univ h_S256x2048 rfl) (.inl rfl))
    pure ⟨⟩
  else do
    pure ⟨⟩
  if k9_h2 : k9_cond2 i = 1#1 then do
    let v20 : Vec F S256x2048 .f32 ← Prog.lift (.load arg7 (Rect.unit (s := S2048x2048) (k9_off2 i) S256x2048.size (k9_off2_inb i k9_h2)).toLoadRect (View.loadsAt_vmem h_S256x2048))
    let v25 : Vec F S256x2048 .bf16 ← Prog.lift (.load arg6 (Rect.unit (s := S256x2048) ![0, 0] S256x2048.size inb_S256x2048_S256x2048_0_0).toLoadRect (View.loadsAt_vmem h_S256x2048))
    Prog.lift (.store arg6 (Rect.unit (s := S256x2048) ![0, 0] S256x2048.size inb_S256x2048_S256x2048_0_0) (pay₃ i v0 v3 v4 v9 v20) Finset.univ (View.stores_vmem h_S256x2048 (harg6.storeExact_slice rfl _ packedbf16_S256x2048_S256x2048_0_0) (fun _ => rfl)) (.inl rfl))
    pure ⟨⟩
  else do
    pure ⟨⟩
  pure ⟨⟩

/-- Which pass a point belongs to, as the program tests it. -/
theorem cond_iff : ∀ t : Fin grid9.N, (k9_cond1 (grid9.coords t) = 1#1 ↔ t.val < 8) ∧ (k9_cond2 (grid9.coords t) = 1#1 ↔ 8 ≤ t.val) := by
  decide +kernel

/-- The row block a point works on. -/
theorem coord_one : ∀ t : Fin grid9.N, (grid9.coords t 1).val = t.val % 8 := by decide +kernel

set_option maxHeartbeats 2000000 in
/-- A constraint launch's body at point `t`: on the first pass block `t` joins the scratch and the output buffer is not
    touched; on the second the output buffer is left at the second payload of the block kept. -/
theorem constr_wp (pay₂ : Pay₂ F) (pay₃ : Pay₃ F) (t : Fin grid9.N) (c : Dev nD) (E : Set ℕ) (Φ O : sProp 𝕄)
    (arg2 arg3 : Memref sig .tc .vmem S256x500 .f32) (arg4 : Memref sig .tc .vmem S1x500x2048 .bf16)
    (arg5 : Memref sig .tc .vmem S1x500 .f32) (arg6 : Memref sig .tc .vmem S256x2048 .bf16) (harg6 : arg6.IsWhole)
    (arg7 : Memref sig .tc .vmem S2048x2048 .f32) (x2 x3 : Vec F S256x500 .f32) (x4 : Vec F S1x500x2048 .bf16) (x5 : Vec F S1x500 .f32)
    (y6 : Vec F S256x2048 .bf16) (f : Fin 8 → Vec F S256x2048 .f32)
    {P2 P3 : Vec F S256x500 .f32 → Prop} {P4 : Vec F S1x500x2048 .bf16 → Prop} {P5 : Vec F S1x500 .f32 → Prop} {P6 : Vec F S256x2048 .bf16 → Prop}
    (h2 : P2 x2) (h3 : P3 x3) (h4 : P4 x4) (h5 : P5 x5) (hf : ∀ h : t.val < 8, pay₂ (grid9.coords t) x5 x2 x3 x4 = f ⟨t.val, h⟩)
    (h6 : t.val < 8 → P6 y6)
    (h6' : ∀ b : Fin 8, t.val = 8 + b.val → P6 (pay₃ (grid9.coords t) x5 x2 x3 x4 (f b))) :
    iprop((heldRows f (min t.val 8) c arg7 ∗ Φ) ∗ O ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare y6)
      ⊢ wp frame (wpE (defs₀ (F := F)) Variants.none c none) E (constrProg pay₂ pay₃ (grid9.coords t) arg2 arg3 arg4 arg5 arg6 harg6 arg7) fun _ =>
        iprop((heldRows f (min (t.val + 1) 8) c arg7 ∗ Φ) ∗ O ∗ (∃ X, ⌜P2 X⌝ ∗ owns (c : Thread nD τ) arg2 fullShare X) ∗ (∃ X, ⌜P3 X⌝ ∗ owns (c : Thread nD τ) arg3 fullShare X)
          ∗ (∃ X, ⌜P4 X⌝ ∗ owns (c : Thread nD τ) arg4 fullShare X) ∗ (∃ X, ⌜P5 X⌝ ∗ owns (c : Thread nD τ) arg5 fullShare X)
          ∗ (∃ X, ⌜P6 X⌝ ∗ owns (c : Thread nD τ) arg6 fullShare X)) := by
  have hN : grid9.N = 16 := by decide
  have ht := t.isLt
  unfold constrProg heldRows owns
  iintro ⟨⟨⟨%S, %hS, ⟨%f7, %hf7, H7⟩⟩, HΦ⟩, HO, ⟨%f2, %hf2, H2⟩, ⟨%f3, %hf3, H3⟩, ⟨%f4, %hf4, H4⟩, ⟨%f5, %hf5, H5⟩, ⟨%f6, %hf6, H6⟩⟩
  subst hf2 hf3 hf4 hf5 hf6 hf7
  by_cases hlt : t.val < 8
  · have c1 : k9_cond1 (grid9.coords t) = 1#1 := (cond_iff t).1.mpr hlt
    have c2 : ¬ k9_cond2 (grid9.coords t) = 1#1 := fun e => by have := (cond_iff t).2.mp e; omega
    simp only [dif_pos c1, dif_neg c2]
    sl_exec
    sl_step
    simp (discharger := decide) only [load_whole]
    isplitl [H7 HΦ]
    · isplitl [H7]
      · iexists _; isplitr
        swap
        · iexists _; isplitr
          swap; · iexact H7
          ipureintro; rfl
        ipureintro
        intro y hy
        have hoff : k9_off1 (grid9.coords t) = ![256 * t.val, 0] := by rw [k9_off1_eq, coord_one, Nat.mod_eq_of_lt hlt]
        by_cases hy' : (y 0).val < 256 * t.val
        · exact (View.read_writes_cons_rows_of_not_mem _ _ _ _ _ y hoff rfl (Or.inl hy')).trans (hS y (by omega))
        · have hx : (y 0).val - 256 * t.val < 256 := by omega
          have e : (y 0).val = 256 * t.val + ((y 0).val - 256 * t.val) := by omega
          exact (View.read_writes_cons_rows_of_mem _ _ _ _ _ y (ValueIdx.ix2 ⟨(y 0).val - 256 * t.val, hx⟩ (y 1)) hoff e rfl).trans
            ((congrFun (hf hlt) _).trans (stack_apply f ⟨t.val, hlt⟩ _ y e rfl).symm)
      · iexact HΦ
    isplitl [HO]; · iexact HO
    isplitl [H2]
    · iexists _; isplitr; · ipureintro; exact h2
      iexists f2; isplitr; · ipureintro; rfl
      iexact H2
    isplitl [H3]
    · iexists _; isplitr; · ipureintro; exact h3
      iexists f3; isplitr; · ipureintro; rfl
      iexact H3
    isplitl [H4]
    · iexists _; isplitr; · ipureintro; exact h4
      iexists f4; isplitr; · ipureintro; rfl
      iexact H4
    isplitl [H5]
    · iexists _; isplitr; · ipureintro; exact h5
      iexists f5; isplitr; · ipureintro; rfl
      iexact H5
    iexists _; isplitr; · ipureintro; exact h6 hlt
    iexists f6; isplitr; · ipureintro; rfl
    iexact H6
  · have c1 : ¬ k9_cond1 (grid9.coords t) = 1#1 := fun e => by have := (cond_iff t).1.mp e; omega
    have c2 : k9_cond2 (grid9.coords t) = 1#1 := (cond_iff t).2.mpr (by omega)
    have hb : t.val - 8 < 8 := by omega
    have hrow : arg7.view.readAt (Elt F) (Rect.unit (s := S2048x2048) (k9_off2 (grid9.coords t)) S256x2048.size (k9_off2_inb (grid9.coords t) c2)).toLoadRect f7
        = f ⟨t.val - 8, hb⟩ := by
      funext x
      have hx := idx2_lt0 x
      have hoff : k9_off2 (grid9.coords t) = ![256 * (t.val - 8), 0] := by
        rw [k9_off2_eq, coord_one, show t.val % 8 = t.val - 8 by omega]
      have e0 : ((Rect.unit (s := S2048x2048) (k9_off2 (grid9.coords t)) S256x2048.size (k9_off2_inb (grid9.coords t) c2)).emb x 0).val
          = 256 * (t.val - 8) + (x 0).val := by
        have h : k9_off2 (grid9.coords t) 0 = 256 * (t.val - 8) := congrFun hoff 0
        show k9_off2 (grid9.coords t) 0 + 1 * (x 0).val = _
        omega
      have e1 : ((Rect.unit (s := S2048x2048) (k9_off2 (grid9.coords t)) S256x2048.size (k9_off2_inb (grid9.coords t) c2)).emb x 1).val
          = (x 1).val := by
        have h : k9_off2 (grid9.coords t) 1 = 0 := congrFun hoff 1
        show k9_off2 (grid9.coords t) 1 + 1 * (x 1).val = _
        omega
      refine (hS _ ?_).trans (stack_apply f ⟨t.val - 8, hb⟩ x _ e0 e1)
      exact lt_of_eq_of_lt e0 (by omega)
    simp only [dif_neg c1, dif_pos c2]
    sl_exec
    sl_step
    simp (discharger := decide) only [load_whole]
    isplitl [H7 HΦ]
    · isplitl [H7]
      · iexists _; isplitr
        swap
        · iexists _; isplitr
          swap; · iexact H7
          ipureintro; rfl
        ipureintro
        intro y hy
        exact hS y (by omega)
      · iexact HΦ
    isplitl [HO]; · iexact HO
    isplitl [H2]
    · iexists _; isplitr; · ipureintro; exact h2
      iexists f2; isplitr; · ipureintro; rfl
      iexact H2
    isplitl [H3]
    · iexists _; isplitr; · ipureintro; exact h3
      iexists f3; isplitr; · ipureintro; rfl
      iexact H3
    isplitl [H4]
    · iexists _; isplitr; · ipureintro; exact h4
      iexists f4; isplitr; · ipureintro; rfl
      iexact H4
    isplitl [H5]
    · iexists _; isplitr; · ipureintro; exact h5
      iexists f5; isplitr; · ipureintro; rfl
      iexact H5
    iexists _; isplitr; · ipureintro; exact h6' ⟨t.val - 8, hb⟩ (show t.val = 8 + (t.val - 8) by omega)
    iexists _; isplitr
    swap; · iexact H6
    ipureintro
    refine (store_whole (F := F) _ _ (by decide) _ _).trans ?_
    rfl

end Cert.KernelIdeal.Value

end
-- ==== Proof.Steps.lean ====
/- The contents of the buffers between the twenty-six steps of the program: six stretches of host operations and twenty
   launches. -/
module

public import proofs.«01_k».proof.Proof.Constr

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- No operation of this stretch allocates. -/
theorem hostOps0_fresh : (hostOps0 : List (HloOp τ sig (Elt F))).Forall fun op => op.fresh = ∅ := by
  simp only [List.Forall]; repeat' constructor
/-- The buffers this stretch writes. -/
abbrev hostOps0_W : List (Ref sig .tc) := [main_call0_v0, main_call0_v1]
/-- The operations of this stretch write no other buffer. -/
theorem hostOps0_writes : (hostOps0 : List (HloOp τ sig (Elt F))).Forall fun op => op.writes ⊆ (hostOps0_W.map (Proc.devRef (τ := τ) .tc)).toFinset :=
  StableHlo.forall_writes_sub_of_map rfl
/-- No operation of this stretch allocates. -/
theorem hostOps3_fresh : (hostOps3 : List (HloOp τ sig (Elt F))).Forall fun op => op.fresh = ∅ := by
  simp only [List.Forall]; repeat' constructor
/-- The buffers this stretch writes. -/
abbrev hostOps3_W : List (Ref sig .tc) := [main_call0_v5, main_call0_v6]
/-- The operations of this stretch write no other buffer. -/
theorem hostOps3_writes : (hostOps3 : List (HloOp τ sig (Elt F))).Forall fun op => op.writes ⊆ (hostOps3_W.map (Proc.devRef (τ := τ) .tc)).toFinset :=
  StableHlo.forall_writes_sub_of_map rfl
/-- No operation of this stretch allocates. -/
theorem hostOps6_fresh : (hostOps6 : List (HloOp τ sig (Elt F))).Forall fun op => op.fresh = ∅ := by
  simp only [List.Forall]; repeat' constructor
/-- The buffers this stretch writes. -/
abbrev hostOps6_W : List (Ref sig .tc) := [main_call0_v10, main_call0_v11]
/-- The operations of this stretch write no other buffer. -/
theorem hostOps6_writes : (hostOps6 : List (HloOp τ sig (Elt F))).Forall fun op => op.writes ⊆ (hostOps6_W.map (Proc.devRef (τ := τ) .tc)).toFinset :=
  StableHlo.forall_writes_sub_of_map rfl
/-- No operation of this stretch allocates. -/
theorem hostOps9_fresh : (hostOps9 : List (HloOp τ sig (Elt F))).Forall fun op => op.fresh = ∅ := by
  simp only [List.Forall]; repeat' constructor
/-- The buffers this stretch writes. -/
abbrev hostOps9_W : List (Ref sig .tc) := [main_call0_v15, main_call0_v16, main_call0_v17, main_call0_v18, main_call0_v19, main_call0_v20, main_call0_v21, main_call0_v22, main_call0_v23, main_call0_v24, main_call0_v25, main_call0_v26, main_call0_v27, main_call0_v28, main_call0_v29, main_call0_v30, main_call0_v31, main_call0_v32]
/-- The operations of this stretch write no other buffer. -/
theorem hostOps9_writes : (hostOps9 : List (HloOp τ sig (Elt F))).Forall fun op => op.writes ⊆ (hostOps9_W.map (Proc.devRef (τ := τ) .tc)).toFinset :=
  StableHlo.forall_writes_sub_of_map rfl
/-- No operation of this stretch allocates. -/
theorem hostOps19_fresh : (hostOps19 : List (HloOp τ sig (Elt F))).Forall fun op => op.fresh = ∅ := by
  simp only [List.Forall]; repeat' constructor
/-- The buffers this stretch writes. -/
abbrev hostOps19_W : List (Ref sig .tc) := [main_call0_v43]
/-- The operations of this stretch write no other buffer. -/
theorem hostOps19_writes : (hostOps19 : List (HloOp τ sig (Elt F))).Forall fun op => op.writes ⊆ (hostOps19_W.map (Proc.devRef (τ := τ) .tc)).toFinset :=
  StableHlo.forall_writes_sub_of_map rfl
/-- No operation of this stretch allocates. -/
theorem hostOps20_fresh : (hostOps20 : List (HloOp τ sig (Elt F))).Forall fun op => op.fresh = ∅ := by
  simp only [List.Forall]; repeat' constructor
/-- The buffers this stretch writes. -/
abbrev hostOps20_W : List (Ref sig .tc) := [main_v0]
/-- The operations of this stretch write no other buffer. -/
theorem hostOps20_writes : (hostOps20 : List (HloOp τ sig (Elt F))).Forall fun op => op.writes ⊆ (hostOps20_W.map (Proc.devRef (τ := τ) .tc)).toFinset :=
  StableHlo.forall_writes_sub_of_map rfl

/-- The two payloads of launch 2. -/
abbrev comb2r : CombPay F := fun v0 v2 v5 v8 v11 v14 v15 => k2_pay4 v0 v2 v11 v14
/-- Its imaginary part. -/
abbrev comb2i : CombPay F := fun v0 v2 v5 v8 v11 v14 v15 => k2_pay5 v0 v2 v5 v8 v11 v14 v15

/-- The two payloads of launch 5. -/
abbrev comb5r : CombPay F := fun v0 v2 v5 v8 v11 v14 v15 => k5_pay4 v0 v2 v11 v14
/-- Its imaginary part. -/
abbrev comb5i : CombPay F := fun v0 v2 v5 v8 v11 v14 v15 => k5_pay5 v0 v2 v5 v8 v11 v14 v15

/-- The two payloads of launch 8. -/
abbrev comb8r : CombPay F := fun v0 v2 v5 v8 v11 v14 v15 => k8_pay4 v0 v2 v11 v14
/-- Its imaginary part. -/
abbrev comb8i : CombPay F := fun v0 v2 v5 v8 v11 v14 v15 => k8_pay5 v0 v2 v5 v8 v11 v14 v15

/-- The two payloads of launch 13. -/
abbrev comb13r : CombPay F := fun v0 v2 v5 v8 v11 v14 v16 => k13_pay4 v0 v2 v11 v14
/-- Its imaginary part. -/
abbrev comb13i : CombPay F := fun v0 v2 v5 v8 v11 v14 v16 => k13_pay5 v0 v2 v5 v8 v11 v16

/-- The two payloads of launch 18. -/
abbrev comb18r : CombPay F := fun v0 v2 v5 v8 v11 v14 v16 => k18_pay4 v0 v2 v11 v14
/-- Its imaginary part. -/
abbrev comb18i : CombPay F := fun v0 v2 v5 v8 v11 v14 v16 => k18_pay5 v0 v2 v5 v8 v11 v16

/-- What step `k` of the program does to the buffers. -/
def stepAt : ℕ → Valuation τ sig (Elt F) → Valuation τ sig (Elt F)
  | 0 => StableHlo.after hostOps0
  | 1 => fun W => upd W main_call0_v2 (k0_pay1 (W main_arg0) (W main_arg1) (W main_call0_v0))
  | 2 => fun W => upd W main_call0_v3 (k1_pay1 (W main_arg0) (W main_arg1) (W main_call0_v1))
  | 3 => fun W => upd (upd W main_call0_v4_0 (comb2r (W main_arg11) (lo (W main_call0_v2)) (hi (W main_call0_v2)) (lo (W main_call0_v3)) (hi (W main_call0_v3)) (W main_arg0) (W main_arg1))) main_call0_v4_1 (comb2i (W main_arg11) (lo (W main_call0_v2)) (hi (W main_call0_v2)) (lo (W main_call0_v3)) (hi (W main_call0_v3)) (W main_arg0) (W main_arg1))
  | 4 => StableHlo.after hostOps3
  | 5 => fun W => upd W main_call0_v7 (k3_pay1 (W main_call0_v4_0) (W main_call0_v4_1) (W main_call0_v5))
  | 6 => fun W => upd W main_call0_v8 (k4_pay1 (W main_call0_v4_0) (W main_call0_v4_1) (W main_call0_v6))
  | 7 => fun W => upd (upd W main_call0_v9_0 (comb5r (W main_arg12) (lo (W main_call0_v7)) (hi (W main_call0_v7)) (lo (W main_call0_v8)) (hi (W main_call0_v8)) (W main_call0_v4_0) (W main_call0_v4_1))) main_call0_v9_1 (comb5i (W main_arg12) (lo (W main_call0_v7)) (hi (W main_call0_v7)) (lo (W main_call0_v8)) (hi (W main_call0_v8)) (W main_call0_v4_0) (W main_call0_v4_1))
  | 8 => StableHlo.after hostOps6
  | 9 => fun W => upd W main_call0_v12 (k6_pay1 (W main_call0_v9_0) (W main_call0_v9_1) (W main_call0_v10))
  | 10 => fun W => upd W main_call0_v13 (k7_pay1 (W main_call0_v9_0) (W main_call0_v9_1) (W main_call0_v11))
  | 11 => fun W => upd (upd W main_call0_v14_0 (comb8r (W main_arg13) (lo (W main_call0_v12)) (hi (W main_call0_v12)) (lo (W main_call0_v13)) (hi (W main_call0_v13)) (W main_call0_v9_0) (W main_call0_v9_1))) main_call0_v14_1 (comb8i (W main_arg13) (lo (W main_call0_v12)) (hi (W main_call0_v12)) (lo (W main_call0_v13)) (hi (W main_call0_v13)) (W main_call0_v9_0) (W main_call0_v9_1))
  | 12 => StableHlo.after hostOps9
  | 13 => fun W => upd W main_call0_v33 (constr k9_pay2 k9_pay3 (W main_arg8) (W main_arg9) (W main_call0_v21) (W main_call0_v26))
  | 14 => fun W => upd W main_call0_v34 (constr k10_pay2 k10_pay3 (W main_arg9) (W main_arg8) (W main_call0_v21) (W main_call0_v26))
  | 15 => fun W => upd W main_call0_v35 (k11_pay1 (W main_call0_v14_0) (W main_call0_v14_1) (W main_call0_v33))
  | 16 => fun W => upd W main_call0_v36 (k12_pay1 (W main_call0_v14_0) (W main_call0_v14_1) (W main_call0_v34))
  | 17 => fun W => upd (upd W main_call0_v37_0 (comb13r (W main_arg14) (lo (W main_call0_v35)) (hi (W main_call0_v35)) (lo (W main_call0_v36)) (hi (W main_call0_v36)) (W main_call0_v14_0) (W main_call0_v14_1))) main_call0_v37_1 (comb13i (W main_arg14) (lo (W main_call0_v35)) (hi (W main_call0_v35)) (lo (W main_call0_v36)) (hi (W main_call0_v36)) (W main_call0_v14_0) (W main_call0_v14_1))
  | 18 => fun W => upd W main_call0_v38 (constr k14_pay2 k14_pay3 (W main_arg8) (W main_arg9) (W main_call0_v21) (W main_call0_v32))
  | 19 => fun W => upd W main_call0_v39 (constr k15_pay2 k15_pay3 (W main_arg9) (W main_arg8) (W main_call0_v21) (W main_call0_v32))
  | 20 => fun W => upd W main_call0_v40 (k16_pay1 (W main_call0_v37_0) (W main_call0_v37_1) (W main_call0_v38))
  | 21 => fun W => upd W main_call0_v41 (k17_pay1 (W main_call0_v37_0) (W main_call0_v37_1) (W main_call0_v39))
  | 22 => fun W => upd (upd W main_call0_v42_0 (comb18r (W main_arg15) (lo (W main_call0_v40)) (hi (W main_call0_v40)) (lo (W main_call0_v41)) (hi (W main_call0_v41)) (W main_call0_v37_0) (W main_call0_v37_1))) main_call0_v42_1 (comb18i (W main_arg15) (lo (W main_call0_v40)) (hi (W main_call0_v40)) (lo (W main_call0_v41)) (hi (W main_call0_v41)) (W main_call0_v37_0) (W main_call0_v37_1))
  | 23 => StableHlo.after hostOps19
  | 24 => fun W => upd W main_call0_v44 (k19_pay1 (W main_call0_v42_0) (W main_call0_v42_1) (W main_arg16) (W main_call0_v43))
  | 25 => StableHlo.after hostOps20
  | _ => id

/-- The buffers step `k` writes. -/
def stepW : ℕ → List (Ref sig .tc)
  | 0 => hostOps0_W
  | 1 => [main_call0_v2]
  | 2 => [main_call0_v3]
  | 3 => [main_call0_v4_0, main_call0_v4_1]
  | 4 => hostOps3_W
  | 5 => [main_call0_v7]
  | 6 => [main_call0_v8]
  | 7 => [main_call0_v9_0, main_call0_v9_1]
  | 8 => hostOps6_W
  | 9 => [main_call0_v12]
  | 10 => [main_call0_v13]
  | 11 => [main_call0_v14_0, main_call0_v14_1]
  | 12 => hostOps9_W
  | 13 => [main_call0_v33]
  | 14 => [main_call0_v34]
  | 15 => [main_call0_v35]
  | 16 => [main_call0_v36]
  | 17 => [main_call0_v37_0, main_call0_v37_1]
  | 18 => [main_call0_v38]
  | 19 => [main_call0_v39]
  | 20 => [main_call0_v40]
  | 21 => [main_call0_v41]
  | 22 => [main_call0_v42_0, main_call0_v42_1]
  | 23 => hostOps19_W
  | 24 => [main_call0_v44]
  | 25 => hostOps20_W
  | _ => []

/-- A launch with one output leaves every other buffer alone. -/
theorem keep₁ (W : Valuation τ sig (Elt F)) (o : Ref sig .tc) (v) (b : Ref sig .tc) (h : b ∉ [o]) :
    upd W o v (Proc.devRef .tc b) = W (Proc.devRef .tc b) := upd_of_ne W o v b (List.ne_of_not_mem_cons h)

/-- A launch with two outputs leaves every other buffer alone. -/
theorem keep₂ (W : Valuation τ sig (Elt F)) (o o' : Ref sig .tc) (v v') (b : Ref sig .tc) (h : b ∉ [o, o']) :
    upd (upd W o v) o' v' (Proc.devRef .tc b) = W (Proc.devRef .tc b) :=
  (upd_of_ne _ o' v' b (List.ne_of_not_mem_cons (List.not_mem_of_not_mem_cons h))).trans (upd_of_ne W o v b (List.ne_of_not_mem_cons h))

set_option maxHeartbeats 4000000 in
/-- A step leaves alone every buffer it does not write. -/
theorem step_keep (W : Valuation τ sig (Elt F)) (b : Ref sig .tc) :
    ∀ k : ℕ, b ∉ stepW k → stepAt k W (Proc.devRef .tc b) = W (Proc.devRef .tc b)
  | 0, h => StableHlo.after_of_writes_sub hostOps0 _ hostOps0_writes h
  | 1, h => keep₁ W _ _ b h
  | 2, h => keep₁ W _ _ b h
  | 3, h => keep₂ W _ _ _ _ b h
  | 4, h => StableHlo.after_of_writes_sub hostOps3 _ hostOps3_writes h
  | 5, h => keep₁ W _ _ b h
  | 6, h => keep₁ W _ _ b h
  | 7, h => keep₂ W _ _ _ _ b h
  | 8, h => StableHlo.after_of_writes_sub hostOps6 _ hostOps6_writes h
  | 9, h => keep₁ W _ _ b h
  | 10, h => keep₁ W _ _ b h
  | 11, h => keep₂ W _ _ _ _ b h
  | 12, h => StableHlo.after_of_writes_sub hostOps9 _ hostOps9_writes h
  | 13, h => keep₁ W _ _ b h
  | 14, h => keep₁ W _ _ b h
  | 15, h => keep₁ W _ _ b h
  | 16, h => keep₁ W _ _ b h
  | 17, h => keep₂ W _ _ _ _ b h
  | 18, h => keep₁ W _ _ b h
  | 19, h => keep₁ W _ _ b h
  | 20, h => keep₁ W _ _ b h
  | 21, h => keep₁ W _ _ b h
  | 22, h => keep₂ W _ _ _ _ b h
  | 23, h => StableHlo.after_of_writes_sub hostOps19 _ hostOps19_writes h
  | 24, h => keep₁ W _ _ b h
  | 25, h => StableHlo.after_of_writes_sub hostOps20 _ hostOps20_writes h
  | _ + 26, _ => rfl

/-- The buffers before step `k`. -/
def bd (W : Valuation τ sig (Elt F)) : ℕ → Valuation τ sig (Elt F)
  | 0 => W
  | k + 1 => stepAt k (bd W k)

/-- A buffer no step from `k` on for `n` steps writes stands as it stood. -/
theorem bd_keep (W : Valuation τ sig (Elt F)) (b : Ref sig .tc) (k : ℕ) :
    ∀ n : ℕ, (∀ i < n, b ∉ stepW (k + i)) → bd W (k + n) (Proc.devRef .tc b) = bd W k (Proc.devRef .tc b)
  | 0, _ => rfl
  | n + 1, h => (step_keep _ b (k + n) (h n n.lt_succ_self)).trans (bd_keep W b k n fun i hi => h i (Nat.lt_succ_of_lt hi))

end Cert.KernelIdeal.Value

end
-- ==== Proof.Launches.lean ====
/- The twenty launches: what each body does to its windows, at every point of its grid. -/
module

public import proofs.«01_k».proof.Proof.Steps

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Idealize.ShloMosaic.ValueIdx (idx2_lt0 idx2_lt1)
open Cert.KernelIdeal.Gen

variable {F : FTy → Type} [FloatOps F]

local notation "𝕄" => MT nD τ sig Unit (Elt F) ℕ (UR sig nD τ) ℕ

/-- The data of a launch without a grid, entered before step `s`. -/
abbrev whole (cfg : Cfg sig Λ₀) (s : ℕ) (c : Dev nD) (W : Valuation τ sig (Elt F)) : RDat τ (Elt F) Unit ℕ (UR sig nD τ) ℕ cfg c :=
  rdat cfg c W (stepAt s W) (fun _ => True) fun _ => Pipeline.ΦA cfg.spec c

/-- Launch 0's body. -/
theorem row0 (t : Fin cfg0.N) : defs₀ (F := F) .tc cfg0.body (cfg0.bodyArgs t (cfg0.slots t)) = bodyAt0 t := by
  unfold defs₀; rw [Defs.onTc_tc]

/-- Launch 0 leaves its product. -/
theorem body0 (c : Dev nD) (W : Valuation τ sig (Elt F)) : (whole cfg0 1 c W).BodyObligation defs₀ 𝒱₀ () Set.univ := by
  intro t Y hY
  have e0 : Y 0 = W main_call0_v0 := funext (finds_whole 0 rfl (fun _ _ => rfl) (fun _ _ => rfl) (fun _ => rfl) (fun _ _ _ => rfl) t _ (hY 0))
  have e1 : Y 1 = W main_arg0 := funext (finds_whole 1 rfl (fun _ _ => rfl) (fun _ _ => rfl) (fun _ => rfl) (fun _ _ _ => rfl) t _ (hY 1))
  have e2 : Y 2 = W main_arg1 := funext (finds_whole 2 rfl (fun _ _ => rfl) (fun _ _ => rfl) (fun _ => rfl) (fun _ _ _ => rfl) t _ (hY 2))
  rw [bigSep_W0, bigSep_W0, row0]
  refine pair_wp k0_pay1 c Set.univ _ _ _ _ _ _ (Y 0) (Y 1) (Y 2) (Y 3) (after_in rfl t _) (after_in rfl t _) (after_in rfl t _)
    (after_whole 3 rfl (fun _ _ => rfl) (fun _ => rfl) t _ _ fun j => ?_)
  rw [e0, e1, e2]
  exact congrFun (upd_self W main_call0_v2 _).symm j

/-- Launch 1's body. -/
theorem row1 (t : Fin cfg1.N) : defs₀ (F := F) .tc cfg1.body (cfg1.bodyArgs t (cfg1.slots t)) = bodyAt1 t := by
  unfold defs₀; rw [Defs.onTc_tc]

/-- Launch 1 leaves its product. -/
theorem body1 (c : Dev nD) (W : Valuation τ sig (Elt F)) : (whole cfg1 2 c W).BodyObligation defs₀ 𝒱₀ () Set.univ := by
  intro t Y hY
  have e0 : Y 0 = W main_call0_v1 := funext (finds_whole 0 rfl (fun _ _ => rfl) (fun _ _ => rfl) (fun _ => rfl) (fun _ _ _ => rfl) t _ (hY 0))
  have e1 : Y 1 = W main_arg0 := funext (finds_whole 1 rfl (fun _ _ => rfl) (fun _ _ => rfl) (fun _ => rfl) (fun _ _ _ => rfl) t _ (hY 1))
  have e2 : Y 2 = W main_arg1 := funext (finds_whole 2 rfl (fun _ _ => rfl) (fun _ _ => rfl) (fun _ => rfl) (fun _ _ _ => rfl) t _ (hY 2))
  rw [bigSep_W1, bigSep_W1, row1]
  refine pair_wp k1_pay1 c Set.univ _ _ _ _ _ _ (Y 0) (Y 1) (Y 2) (Y 3) (after_in rfl t _) (after_in rfl t _) (after_in rfl t _)
    (after_whole 3 rfl (fun _ _ => rfl) (fun _ => rfl) t _ _ fun j => ?_)
  rw [e0, e1, e2]
  exact congrFun (upd_self W main_call0_v3 _).symm j

/-- Launch 2's body. -/
theorem row2 (t : Fin cfg2.N) : defs₀ (F := F) .tc cfg2.body (cfg2.bodyArgs t (cfg2.slots t)) = bodyAt2 t := by
  unfold defs₀; rw [Defs.onTc_tc]

/-- Launch 2 leaves its two payloads. -/
theorem body2 (c : Dev nD) (W : Valuation τ sig (Elt F)) : (whole cfg2 3 c W).BodyObligation defs₀ 𝒱₀ () Set.univ := by
  intro t Y hY
  have e0 : Y 0 = W main_call0_v2 := funext (finds_whole 0 rfl (fun _ _ => rfl) (fun _ _ => rfl) (fun _ => rfl) (fun _ _ _ => rfl) t _ (hY 0))
  have e1 : Y 1 = W main_call0_v3 := funext (finds_whole 1 rfl (fun _ _ => rfl) (fun _ _ => rfl) (fun _ => rfl) (fun _ _ _ => rfl) t _ (hY 1))
  have e2 : Y 2 = W main_arg11 := funext (finds_whole 2 rfl (fun _ _ => rfl) (fun _ _ => rfl) (fun _ => rfl) (fun _ _ _ => rfl) t _ (hY 2))
  have e3 : Y 3 = W main_arg0 := funext (finds_whole 3 rfl (fun _ _ => rfl) (fun _ _ => rfl) (fun _ => rfl) (fun _ _ _ => rfl) t _ (hY 3))
  have e4 : Y 4 = W main_arg1 := funext (finds_whole 4 rfl (fun _ _ => rfl) (fun _ _ => rfl) (fun _ => rfl) (fun _ _ _ => rfl) t _ (hY 4))
  rw [bigSep_W2, bigSep_W2, row2]
  refine comb_wp comb2r comb2i c Set.univ _ _ _ _ _ _ _ _ _ (Y 0) (Y 1) (Y 2) (Y 3) (Y 4) (Y 5) (Y 6) (after_in rfl t _) (after_in rfl t _) (after_in rfl t _) (after_in rfl t _) (after_in rfl t _)
    (after_whole 5 rfl (fun _ _ => rfl) (fun _ => rfl) t _ _ fun j => ?_) (after_whole 6 rfl (fun _ _ => rfl) (fun _ => rfl) t _ _ fun j => ?_)
  all_goals rw [e0, e1, e2, e3, e4]
  · exact congrFun ((upd_of_ne _ main_call0_v4_1 (comb2i (W main_arg11) (lo (W main_call0_v2)) (hi (W main_call0_v2)) (lo (W main_call0_v3)) (hi (W main_call0_v3)) (W main_arg0) (W main_arg1)) main_call0_v4_0 (by decide)).trans (upd_self W main_call0_v4_0 _)).symm j
  · exact congrFun (upd_self (upd W main_call0_v4_0 (comb2r (W main_arg11) (lo (W main_call0_v2)) (hi (W main_call0_v2)) (lo (W main_call0_v3)) (hi (W main_call0_v3)) (W main_arg0) (W main_arg1))) main_call0_v4_1 _).symm j

/-- Launch 3's body. -/
theorem row3 (t : Fin cfg3.N) : defs₀ (F := F) .tc cfg3.body (cfg3.bodyArgs t (cfg3.slots t)) = bodyAt3 t := by
  unfold defs₀; rw [Defs.onTc_tc]

/-- Launch 3 leaves its product. -/
theorem body3 (c : Dev nD) (W : Valuation τ sig (Elt F)) : (whole cfg3 5 c W).BodyObligation defs₀ 𝒱₀ () Set.univ := by
  intro t Y hY
  have e0 : Y 0 = W main_call0_v5 := funext (finds_whole 0 rfl (fun _ _ => rfl) (fun _ _ => rfl) (fun _ => rfl) (fun _ _ _ => rfl) t _ (hY 0))
  have e1 : Y 1 = W main_call0_v4_0 := funext (finds_whole 1 rfl (fun _ _ => rfl) (fun _ _ => rfl) (fun _ => rfl) (fun _ _ _ => rfl) t _ (hY 1))
  have e2 : Y 2 = W main_call0_v4_1 := funext (finds_whole 2 rfl (fun _ _ => rfl) (fun _ _ => rfl) (fun _ => rfl) (fun _ _ _ => rfl) t _ (hY 2))
  rw [bigSep_W3, bigSep_W3, row3]
  refine pair_wp k3_pay1 c Set.univ _ _ _ _ _ _ (Y 0) (Y 1) (Y 2) (Y 3) (after_in rfl t _) (after_in rfl t _) (after_in rfl t _)
    (after_whole 3 rfl (fun _ _ => rfl) (fun _ => rfl) t _ _ fun j => ?_)
  rw [e0, e1, e2]
  exact congrFun (upd_self W main_call0_v7 _).symm j

/-- Launch 4's body. -/
theorem row4 (t : Fin cfg4.N) : defs₀ (F := F) .tc cfg4.body (cfg4.bodyArgs t (cfg4.slots t)) = bodyAt4 t := by
  unfold defs₀; rw [Defs.onTc_tc]

/-- Launch 4 leaves its product. -/
theorem body4 (c : Dev nD) (W : Valuation τ sig (Elt F)) : (whole cfg4 6 c W).BodyObligation defs₀ 𝒱₀ () Set.univ := by
  intro t Y hY
  have e0 : Y 0 = W main_call0_v6 := funext (finds_whole 0 rfl (fun _ _ => rfl) (fun _ _ => rfl) (fun _ => rfl) (fun _ _ _ => rfl) t _ (hY 0))
  have e1 : Y 1 = W main_call0_v4_0 := funext (finds_whole 1 rfl (fun _ _ => rfl) (fun _ _ => rfl) (fun _ => rfl) (fun _ _ _ => rfl) t _ (hY 1))
  have e2 : Y 2 = W main_call0_v4_1 := funext (finds_whole 2 rfl (fun _ _ => rfl) (fun _ _ => rfl) (fun _ => rfl) (fun _ _ _ => rfl) t _ (hY 2))
  rw [bigSep_W4, bigSep_W4, row4]
  refine pair_wp k4_pay1 c Set.univ _ _ _ _ _ _ (Y 0) (Y 1) (Y 2) (Y 3) (after_in rfl t _) (after_in rfl t _) (after_in rfl t _)
    (after_whole 3 rfl (fun _ _ => rfl) (fun _ => rfl) t _ _ fun j => ?_)
  rw [e0, e1, e2]
  exact congrFun (upd_self W main_call0_v8 _).symm j

/-- Launch 5's body. -/
theorem row5 (t : Fin cfg5.N) : defs₀ (F := F) .tc cfg5.body (cfg5.bodyArgs t (cfg5.slots t)) = bodyAt5 t := by
  unfold defs₀; rw [Defs.onTc_tc]

/-- Launch 5 leaves its two payloads. -/
theorem body5 (c : Dev nD) (W : Valuation τ sig (Elt F)) : (whole cfg5 7 c W).BodyObligation defs₀ 𝒱₀ () Set.univ := by
  intro t Y hY
  have e0 : Y 0 = W main_call0_v7 := funext (finds_whole 0 rfl (fun _ _ => rfl) (fun _ _ => rfl) (fun _ => rfl) (fun _ _ _ => rfl) t _ (hY 0))
  have e1 : Y 1 = W main_call0_v8 := funext (finds_whole 1 rfl (fun _ _ => rfl) (fun _ _ => rfl) (fun _ => rfl) (fun _ _ _ => rfl) t _ (hY 1))
  have e2 : Y 2 = W main_arg12 := funext (finds_whole 2 rfl (fun _ _ => rfl) (fun _ _ => rfl) (fun _ => rfl) (fun _ _ _ => rfl) t _ (hY 2))
  have e3 : Y 3 = W main_call0_v4_0 := funext (finds_whole 3 rfl (fun _ _ => rfl) (fun _ _ => rfl) (fun _ => rfl) (fun _ _ _ => rfl) t _ (hY 3))
  have e4 : Y 4 = W main_call0_v4_1 := funext (finds_whole 4 rfl (fun _ _ => rfl) (fun _ _ => rfl) (fun _ => rfl) (fun _ _ _ => rfl) t _ (hY 4))
  rw [bigSep_W5, bigSep_W5, row5]
  refine comb_wp comb5r comb5i c Set.univ _ _ _ _ _ _ _ _ _ (Y 0) (Y 1) (Y 2) (Y 3) (Y 4) (Y 5) (Y 6) (after_in rfl t _) (after_in rfl t _) (after_in rfl t _) (after_in rfl t _) (after_in rfl t _)
    (after_whole 5 rfl (fun _ _ => rfl) (fun _ => rfl) t _ _ fun j => ?_) (after_whole 6 rfl (fun _ _ => rfl) (fun _ => rfl) t _ _ fun j => ?_)
  all_goals rw [e0, e1, e2, e3, e4]
  · exact congrFun ((upd_of_ne _ main_call0_v9_1 (comb5i (W main_arg12) (lo (W main_call0_v7)) (hi (W main_call0_v7)) (lo (W main_call0_v8)) (hi (W main_call0_v8)) (W main_call0_v4_0) (W main_call0_v4_1)) main_call0_v9_0 (by decide)).trans (upd_self W main_call0_v9_0 _)).symm j
  · exact congrFun (upd_self (upd W main_call0_v9_0 (comb5r (W main_arg12) (lo (W main_call0_v7)) (hi (W main_call0_v7)) (lo (W main_call0_v8)) (hi (W main_call0_v8)) (W main_call0_v4_0) (W main_call0_v4_1))) main_call0_v9_1 _).symm j

/-- Launch 6's body. -/
theorem row6 (t : Fin cfg6.N) : defs₀ (F := F) .tc cfg6.body (cfg6.bodyArgs t (cfg6.slots t)) = bodyAt6 t := by
  unfold defs₀; rw [Defs.onTc_tc]

/-- Launch 6 leaves its product. -/
theorem body6 (c : Dev nD) (W : Valuation τ sig (Elt F)) : (whole cfg6 9 c W).BodyObligation defs₀ 𝒱₀ () Set.univ := by
  intro t Y hY
  have e0 : Y 0 = W main_call0_v10 := funext (finds_whole 0 rfl (fun _ _ => rfl) (fun _ _ => rfl) (fun _ => rfl) (fun _ _ _ => rfl) t _ (hY 0))
  have e1 : Y 1 = W main_call0_v9_0 := funext (finds_whole 1 rfl (fun _ _ => rfl) (fun _ _ => rfl) (fun _ => rfl) (fun _ _ _ => rfl) t _ (hY 1))
  have e2 : Y 2 = W main_call0_v9_1 := funext (finds_whole 2 rfl (fun _ _ => rfl) (fun _ _ => rfl) (fun _ => rfl) (fun _ _ _ => rfl) t _ (hY 2))
  rw [bigSep_W6, bigSep_W6, row6]
  refine pair_wp k6_pay1 c Set.univ _ _ _ _ _ _ (Y 0) (Y 1) (Y 2) (Y 3) (after_in rfl t _) (after_in rfl t _) (after_in rfl t _)
    (after_whole 3 rfl (fun _ _ => rfl) (fun _ => rfl) t _ _ fun j => ?_)
  rw [e0, e1, e2]
  exact congrFun (upd_self W main_call0_v12 _).symm j

/-- Launch 7's body. -/
theorem row7 (t : Fin cfg7.N) : defs₀ (F := F) .tc cfg7.body (cfg7.bodyArgs t (cfg7.slots t)) = bodyAt7 t := by
  unfold defs₀; rw [Defs.onTc_tc]

/-- Launch 7 leaves its product. -/
theorem body7 (c : Dev nD) (W : Valuation τ sig (Elt F)) : (whole cfg7 10 c W).BodyObligation defs₀ 𝒱₀ () Set.univ := by
  intro t Y hY
  have e0 : Y 0 = W main_call0_v11 := funext (finds_whole 0 rfl (fun _ _ => rfl) (fun _ _ => rfl) (fun _ => rfl) (fun _ _ _ => rfl) t _ (hY 0))
  have e1 : Y 1 = W main_call0_v9_0 := funext (finds_whole 1 rfl (fun _ _ => rfl) (fun _ _ => rfl) (fun _ => rfl) (fun _ _ _ => rfl) t _ (hY 1))
  have e2 : Y 2 = W main_call0_v9_1 := funext (finds_whole 2 rfl (fun _ _ => rfl) (fun _ _ => rfl) (fun _ => rfl) (fun _ _ _ => rfl) t _ (hY 2))
  rw [bigSep_W7, bigSep_W7, row7]
  refine pair_wp k7_pay1 c Set.univ _ _ _ _ _ _ (Y 0) (Y 1) (Y 2) (Y 3) (after_in rfl t _) (after_in rfl t _) (after_in rfl t _)
    (after_whole 3 rfl (fun _ _ => rfl) (fun _ => rfl) t _ _ fun j => ?_)
  rw [e0, e1, e2]
  exact congrFun (upd_self W main_call0_v13 _).symm j

/-- Launch 8's body. -/
theorem row8 (t : Fin cfg8.N) : defs₀ (F := F) .tc cfg8.body (cfg8.bodyArgs t (cfg8.slots t)) = bodyAt8 t := by
  unfold defs₀; rw [Defs.onTc_tc]

/-- Launch 8 leaves its two payloads. -/
theorem body8 (c : Dev nD) (W : Valuation τ sig (Elt F)) : (whole cfg8 11 c W).BodyObligation defs₀ 𝒱₀ () Set.univ := by
  intro t Y hY
  have e0 : Y 0 = W main_call0_v12 := funext (finds_whole 0 rfl (fun _ _ => rfl) (fun _ _ => rfl) (fun _ => rfl) (fun _ _ _ => rfl) t _ (hY 0))
  have e1 : Y 1 = W main_call0_v13 := funext (finds_whole 1 rfl (fun _ _ => rfl) (fun _ _ => rfl) (fun _ => rfl) (fun _ _ _ => rfl) t _ (hY 1))
  have e2 : Y 2 = W main_arg13 := funext (finds_whole 2 rfl (fun _ _ => rfl) (fun _ _ => rfl) (fun _ => rfl) (fun _ _ _ => rfl) t _ (hY 2))
  have e3 : Y 3 = W main_call0_v9_0 := funext (finds_whole 3 rfl (fun _ _ => rfl) (fun _ _ => rfl) (fun _ => rfl) (fun _ _ _ => rfl) t _ (hY 3))
  have e4 : Y 4 = W main_call0_v9_1 := funext (finds_whole 4 rfl (fun _ _ => rfl) (fun _ _ => rfl) (fun _ => rfl) (fun _ _ _ => rfl) t _ (hY 4))
  rw [bigSep_W8, bigSep_W8, row8]
  refine comb_wp comb8r comb8i c Set.univ _ _ _ _ _ _ _ _ _ (Y 0) (Y 1) (Y 2) (Y 3) (Y 4) (Y 5) (Y 6) (after_in rfl t _) (after_in rfl t _) (after_in rfl t _) (after_in rfl t _) (after_in rfl t _)
    (after_whole 5 rfl (fun _ _ => rfl) (fun _ => rfl) t _ _ fun j => ?_) (after_whole 6 rfl (fun _ _ => rfl) (fun _ => rfl) t _ _ fun j => ?_)
  all_goals rw [e0, e1, e2, e3, e4]
  · exact congrFun ((upd_of_ne _ main_call0_v14_1 (comb8i (W main_arg13) (lo (W main_call0_v12)) (hi (W main_call0_v12)) (lo (W main_call0_v13)) (hi (W main_call0_v13)) (W main_call0_v9_0) (W main_call0_v9_1)) main_call0_v14_0 (by decide)).trans (upd_self W main_call0_v14_0 _)).symm j
  · exact congrFun (upd_self (upd W main_call0_v14_0 (comb8r (W main_arg13) (lo (W main_call0_v12)) (hi (W main_call0_v12)) (lo (W main_call0_v13)) (hi (W main_call0_v13)) (W main_call0_v9_0) (W main_call0_v9_1))) main_call0_v14_1 _).symm j

/-- A window on rows `256 b …`: where it reads the array. -/
theorem row_at {w : ℕ} {b : Fin 8} {ix : Fin 2 → ℕ} (h : ix = ![b.val, 0]) (x : (⟨2, ![256, w]⟩ : Shape).Idx) :
    ∀ a : Fin 2, ((ValueIdx.ix2 (n0 := 2048) (n1 := w) ⟨256 * b.val + (x 0).val, by have := idx2_lt0 x; omega⟩ ⟨(x 1).val, idx2_lt1 x⟩) a).val
      = ix a * (⟨2, ![256, w]⟩ : Shape).size a + (x a).val := by
  subst h
  exact Fin.forall_fin_two.mpr ⟨by show 256 * b.val + (x 0).val = b.val * 256 + (x 0).val; omega, by show (x 1).val = 0 * w + (x 1).val; omega⟩

/-- A window on slab `k`: where it reads the array. -/
theorem slab_at {k : Fin 2} {ix : Fin 3 → ℕ} (h : ix = ![k.val, 0, 0]) (x : S1x500x2048.Idx) :
    ∀ a : Fin 3, ((ValueIdx.ix3 (n0 := 2) (n1 := 500) (n2 := 2048) k (x 1) (x 2)) a).val = ix a * S1x500x2048.size a + (x a).val := by
  subst h
  have h0 : (x 0).val < 1 := (x 0).isLt
  intro a
  match a with
  | 0 => show k.val = k.val * 1 + (x 0).val; omega
  | 1 => show (x 1).val = 0 * 500 + (x 1).val; omega
  | 2 => show (x 2).val = 0 * 2048 + (x 2).val; omega

/-- A window on the whole of a one-row array. -/
theorem one_at {ix : Fin 2 → ℕ} (h : ix = ![0, 0]) (x : S1x500.Idx) : ∀ a : Fin 2, (x a).val = ix a * S1x500.size a + (x a).val := by
  subst h
  exact Fin.forall_fin_two.mpr ⟨by show (x 0).val = 0 * 1 + (x 0).val; omega, by show (x 1).val = 0 * 500 + (x 1).val; omega⟩

/-- The first pass at point `t` computes block `t`. -/
theorem first_eq (pay₂ : Pay₂ F) (A B : Vec F S2048x500 .f32) (Q : Vec F S2x500x2048 .bf16) (T : Vec F S1x500 .f32) (t : Fin grid9.N) (h : t.val < 8) :
    pay₂ (grid9.coords t) T (rowBlk A ⟨t.val % 8, Nat.mod_lt _ (by decide)⟩) (rowBlk B ⟨t.val % 8, Nat.mod_lt _ (by decide)⟩)
      (slab Q ⟨t.val / 8, by have : t.val < 16 := t.isLt; omega⟩) = first pay₂ A B Q T ⟨t.val, h⟩ := by
  have e : ∀ h', (⟨t.val % 8, h'⟩ : Fin 8) = ⟨t.val, h⟩ := fun _ => Fin.ext (Nat.mod_eq_of_lt h)
  have e' : ∀ h', (⟨t.val / 8, h'⟩ : Fin 2) = 0 := fun _ => Fin.ext (by show t.val / 8 = 0; omega)
  have et : t = pnt 0 ⟨t.val, h⟩ := Fin.ext (by show t.val = 8 * 0 + t.val; omega)
  rw [e, e']
  unfold first crd
  rw [← et]

/-- The second pass at point `8 + b` computes block `b` of the launch's array. -/
theorem second_eq (pay₂ : Pay₂ F) (pay₃ : Pay₃ F) (A B : Vec F S2048x500 .f32) (Q : Vec F S2x500x2048 .bf16) (T : Vec F S1x500 .f32) (t : Fin grid9.N)
    (b : Fin 8) (hb : t.val = 8 + b.val) (j : S256x2048.Idx) :
    pay₃ (grid9.coords t) T (rowBlk A ⟨t.val % 8, Nat.mod_lt _ (by decide)⟩) (rowBlk B ⟨t.val % 8, Nat.mod_lt _ (by decide)⟩)
      (slab Q ⟨t.val / 8, by have : t.val < 16 := t.isLt; omega⟩) (first pay₂ A B Q T b) j
      = constr pay₂ pay₃ A B Q T (ValueIdx.ix2 ⟨256 * b.val + (j 0).val, by have := idx2_lt0 j; omega⟩ ⟨(j 1).val, idx2_lt1 j⟩) := by
  have e : ∀ h', (⟨t.val % 8, h'⟩ : Fin 8) = b := fun _ => Fin.ext (by show t.val % 8 = b.val; omega)
  have e' : ∀ h', (⟨t.val / 8, h'⟩ : Fin 2) = 1 := fun _ => Fin.ext (by show t.val / 8 = 1; omega)
  have et : t = pnt 1 b := Fin.ext (by show t.val = 8 * 1 + b.val; omega)
  rw [e, e']
  unfold constr
  refine Eq.trans ?_ (stack_apply _ b j _ rfl rfl).symm
  unfold crd
  rw [← et]

/-- Launch 9's body. -/
theorem row9 (t : Fin cfg9.N) : defs₀ (F := F) .tc cfg9.body (cfg9.bodyArgs t (cfg9.slots t)) = bodyAt9 t := by
  unfold defs₀; rw [Defs.onTc_tc]

/-- What launch 9's first pass leaves. -/
abbrev kept9 (W : Valuation τ sig (Elt F)) : Fin 8 → Vec F S256x2048 .f32 :=
  first k9_pay2 (W main_arg8) (W main_arg9) (W main_call0_v21) (W main_call0_v26)

/-- Launch 9's data: the scratch holds the blocks of the first pass reached, and an output buffer counts from the second
    pass on. -/
abbrev blocks9 (c : Dev nD) (W : Valuation τ sig (Elt F)) : RDat τ (Elt F) Unit ℕ (UR sig nD τ) ℕ cfg9 c :=
  rdat cfg9 c W (stepAt 13 W) (fun t => 8 ≤ t.val) fun t =>
    iprop(heldRows (kept9 W) (min t.val 8) c (Memref.whole cc9_scratch0)
      ∗ Pipeline.scopedRestBut spec9 c [cc9_scratch0] ∗ ∃ r, prngReg c r)

/-- The blocks a point of launch 9 is on. -/
theorem index9 : ∀ t : Fin grid9.N, (win9_0.index t = ![t.val % 8, 0] ∧ win9_1.index t = ![t.val % 8, 0]
    ∧ win9_2.index t = ![t.val / 8, 0, 0]) ∧ win9_3.index t = ![0, 0] ∧ win9_4.index t = ![t.val % 8, 0] := by decide +kernel

/-- Launch 9 leaves its array, block by block. -/
theorem body9 (c : Dev nD) (W : Valuation τ sig (Elt F)) : (blocks9 c W).BodyObligation defs₀ 𝒱₀ () Set.univ := by
  intro t Y hY
  have hN : t.val < 16 := t.isLt
  obtain ⟨⟨i0, i1, i2⟩, i3, i4⟩ := index9 t
  have e0 : Y 0 = rowBlk (W main_arg8) ⟨t.val % 8, Nat.mod_lt _ (by decide)⟩ := funext fun x =>
    finds_at 0 rfl (fun _ _ => rfl) (fun _ _ _ => rfl) rfl t _ (hY 0) x _ (row_at i0 x)
  have e1 : Y 1 = rowBlk (W main_arg9) ⟨t.val % 8, Nat.mod_lt _ (by decide)⟩ := funext fun x =>
    finds_at 1 rfl (fun _ _ => rfl) (fun _ _ _ => rfl) rfl t _ (hY 1) x _ (row_at i1 x)
  have e2 : Y 2 = slab (W main_call0_v21) ⟨t.val / 8, by omega⟩ := funext fun x =>
    finds_at 2 rfl (fun _ _ => rfl) (fun _ _ _ => rfl) rfl t _ (hY 2) x _ (slab_at i2 x)
  have e3 : Y 3 = W main_call0_v26 := funext fun x =>
    finds_at 3 rfl (fun _ _ => rfl) (fun _ _ _ => rfl) rfl t _ (hY 3) x x (one_at i3 x)
  rw [bigSep_W9, bigSep_W9, row9]
  refine constr_wp k9_pay2 k9_pay3 t c Set.univ _ _ _ _ _ _ _ (hstage9_4 ((cfg9.slots t 4).cast nbuf9_4)) _ (Y 0) (Y 1) (Y 2) (Y 3) (Y 4) (kept9 W) (after_in rfl t _) (after_in rfl t _) (after_in rfl t _) (after_in rfl t _)
    (fun h => ?_) (fun h => ?_) fun b hb => ?_
  · rw [e0, e1, e2, e3]
    exact first_eq _ _ _ _ _ t h
  · exact after_at 4 rfl rfl t _ _ fun hg => absurd hg (show ¬ 8 ≤ t.val by omega)
  · refine after_at 4 rfl rfl t _ _ fun hg j => ⟨ValueIdx.ix2 ⟨256 * b.val + (j 0).val, by have := idx2_lt0 j; omega⟩ ⟨(j 1).val, idx2_lt1 j⟩, ?_, ?_⟩
    · exact row_at (b := b) (i4.trans (by rw [show t.val % 8 = b.val by omega])) j
    · rw [e0, e1, e2, e3]
      exact (second_eq k9_pay2 k9_pay3 _ _ _ _ t b hb j).trans (congrFun (upd_self W main_call0_v33 _).symm _)

/-- Launch 10's body. -/
theorem row10 (t : Fin cfg10.N) : defs₀ (F := F) .tc cfg10.body (cfg10.bodyArgs t (cfg10.slots t)) = bodyAt10 t := by
  unfold defs₀; rw [Defs.onTc_tc]

/-- What launch 10's first pass leaves. -/
abbrev kept10 (W : Valuation τ sig (Elt F)) : Fin 8 → Vec F S256x2048 .f32 :=
  first k10_pay2 (W main_arg9) (W main_arg8) (W main_call0_v21) (W main_call0_v26)

/-- Launch 10's data: the scratch holds the blocks of the first pass reached, and an output buffer counts from the second
    pass on. -/
abbrev blocks10 (c : Dev nD) (W : Valuation τ sig (Elt F)) : RDat τ (Elt F) Unit ℕ (UR sig nD τ) ℕ cfg10 c :=
  rdat cfg10 c W (stepAt 14 W) (fun t => 8 ≤ t.val) fun t =>
    iprop(heldRows (kept10 W) (min t.val 8) c (Memref.whole cc10_scratch0)
      ∗ Pipeline.scopedRestBut spec10 c [cc10_scratch0] ∗ ∃ r, prngReg c r)

/-- The blocks a point of launch 10 is on. -/
theorem index10 : ∀ t : Fin grid9.N, (win10_0.index t = ![t.val % 8, 0] ∧ win10_1.index t = ![t.val % 8, 0]
    ∧ win10_2.index t = ![t.val / 8, 0, 0]) ∧ win10_3.index t = ![0, 0] ∧ win10_4.index t = ![t.val % 8, 0] := by decide +kernel

/-- Launch 10 leaves its array, block by block. -/
theorem body10 (c : Dev nD) (W : Valuation τ sig (Elt F)) : (blocks10 c W).BodyObligation defs₀ 𝒱₀ () Set.univ := by
  intro t Y hY
  have hN : t.val < 16 := t.isLt
  obtain ⟨⟨i0, i1, i2⟩, i3, i4⟩ := index10 t
  have e0 : Y 0 = rowBlk (W main_arg9) ⟨t.val % 8, Nat.mod_lt _ (by decide)⟩ := funext fun x =>
    finds_at 0 rfl (fun _ _ => rfl) (fun _ _ _ => rfl) rfl t _ (hY 0) x _ (row_at i0 x)
  have e1 : Y 1 = rowBlk (W main_arg8) ⟨t.val % 8, Nat.mod_lt _ (by decide)⟩ := funext fun x =>
    finds_at 1 rfl (fun _ _ => rfl) (fun _ _ _ => rfl) rfl t _ (hY 1) x _ (row_at i1 x)
  have e2 : Y 2 = slab (W main_call0_v21) ⟨t.val / 8, by omega⟩ := funext fun x =>
    finds_at 2 rfl (fun _ _ => rfl) (fun _ _ _ => rfl) rfl t _ (hY 2) x _ (slab_at i2 x)
  have e3 : Y 3 = W main_call0_v26 := funext fun x =>
    finds_at 3 rfl (fun _ _ => rfl) (fun _ _ _ => rfl) rfl t _ (hY 3) x x (one_at i3 x)
  rw [bigSep_W10, bigSep_W10, row10]
  refine constr_wp k10_pay2 k10_pay3 t c Set.univ _ _ _ _ _ _ _ (hstage10_4 ((cfg10.slots t 4).cast nbuf10_4)) _ (Y 0) (Y 1) (Y 2) (Y 3) (Y 4) (kept10 W) (after_in rfl t _) (after_in rfl t _) (after_in rfl t _) (after_in rfl t _)
    (fun h => ?_) (fun h => ?_) fun b hb => ?_
  · rw [e0, e1, e2, e3]
    exact first_eq _ _ _ _ _ t h
  · exact after_at 4 rfl rfl t _ _ fun hg => absurd hg (show ¬ 8 ≤ t.val by omega)
  · refine after_at 4 rfl rfl t _ _ fun hg j => ⟨ValueIdx.ix2 ⟨256 * b.val + (j 0).val, by have := idx2_lt0 j; omega⟩ ⟨(j 1).val, idx2_lt1 j⟩, ?_, ?_⟩
    · exact row_at (b := b) (i4.trans (by rw [show t.val % 8 = b.val by omega])) j
    · rw [e0, e1, e2, e3]
      exact (second_eq k10_pay2 k10_pay3 _ _ _ _ t b hb j).trans (congrFun (upd_self W main_call0_v34 _).symm _)

/-- Launch 11's body. -/
theorem row11 (t : Fin cfg11.N) : defs₀ (F := F) .tc cfg11.body (cfg11.bodyArgs t (cfg11.slots t)) = bodyAt11 t := by
  unfold defs₀; rw [Defs.onTc_tc]

/-- Launch 11 leaves its product. -/
theorem body11 (c : Dev nD) (W : Valuation τ sig (Elt F)) : (whole cfg11 15 c W).BodyObligation defs₀ 𝒱₀ () Set.univ := by
  intro t Y hY
  have e0 : Y 0 = W main_call0_v33 := funext (finds_whole 0 rfl (fun _ _ => rfl) (fun _ _ => rfl) (fun _ => rfl) (fun _ _ _ => rfl) t _ (hY 0))
  have e1 : Y 1 = W main_call0_v14_0 := funext (finds_whole 1 rfl (fun _ _ => rfl) (fun _ _ => rfl) (fun _ => rfl) (fun _ _ _ => rfl) t _ (hY 1))
  have e2 : Y 2 = W main_call0_v14_1 := funext (finds_whole 2 rfl (fun _ _ => rfl) (fun _ _ => rfl) (fun _ => rfl) (fun _ _ _ => rfl) t _ (hY 2))
  rw [bigSep_W11, bigSep_W11, row11]
  refine pair_wp k11_pay1 c Set.univ _ _ _ _ _ _ (Y 0) (Y 1) (Y 2) (Y 3) (after_in rfl t _) (after_in rfl t _) (after_in rfl t _)
    (after_whole 3 rfl (fun _ _ => rfl) (fun _ => rfl) t _ _ fun j => ?_)
  rw [e0, e1, e2]
  exact congrFun (upd_self W main_call0_v35 _).symm j

/-- Launch 12's body. -/
theorem row12 (t : Fin cfg12.N) : defs₀ (F := F) .tc cfg12.body (cfg12.bodyArgs t (cfg12.slots t)) = bodyAt12 t := by
  unfold defs₀; rw [Defs.onTc_tc]

/-- Launch 12 leaves its product. -/
theorem body12 (c : Dev nD) (W : Valuation τ sig (Elt F)) : (whole cfg12 16 c W).BodyObligation defs₀ 𝒱₀ () Set.univ := by
  intro t Y hY
  have e0 : Y 0 = W main_call0_v34 := funext (finds_whole 0 rfl (fun _ _ => rfl) (fun _ _ => rfl) (fun _ => rfl) (fun _ _ _ => rfl) t _ (hY 0))
  have e1 : Y 1 = W main_call0_v14_0 := funext (finds_whole 1 rfl (fun _ _ => rfl) (fun _ _ => rfl) (fun _ => rfl) (fun _ _ _ => rfl) t _ (hY 1))
  have e2 : Y 2 = W main_call0_v14_1 := funext (finds_whole 2 rfl (fun _ _ => rfl) (fun _ _ => rfl) (fun _ => rfl) (fun _ _ _ => rfl) t _ (hY 2))
  rw [bigSep_W12, bigSep_W12, row12]
  refine pair_wp k12_pay1 c Set.univ _ _ _ _ _ _ (Y 0) (Y 1) (Y 2) (Y 3) (after_in rfl t _) (after_in rfl t _) (after_in rfl t _)
    (after_whole 3 rfl (fun _ _ => rfl) (fun _ => rfl) t _ _ fun j => ?_)
  rw [e0, e1, e2]
  exact congrFun (upd_self W main_call0_v36 _).symm j

/-- Launch 13's body. -/
theorem row13 (t : Fin cfg13.N) : defs₀ (F := F) .tc cfg13.body (cfg13.bodyArgs t (cfg13.slots t)) = bodyAt13 t := by
  unfold defs₀; rw [Defs.onTc_tc]

/-- Launch 13 leaves its two payloads. -/
theorem body13 (c : Dev nD) (W : Valuation τ sig (Elt F)) : (whole cfg13 17 c W).BodyObligation defs₀ 𝒱₀ () Set.univ := by
  intro t Y hY
  have e0 : Y 0 = W main_call0_v35 := funext (finds_whole 0 rfl (fun _ _ => rfl) (fun _ _ => rfl) (fun _ => rfl) (fun _ _ _ => rfl) t _ (hY 0))
  have e1 : Y 1 = W main_call0_v36 := funext (finds_whole 1 rfl (fun _ _ => rfl) (fun _ _ => rfl) (fun _ => rfl) (fun _ _ _ => rfl) t _ (hY 1))
  have e2 : Y 2 = W main_arg14 := funext (finds_whole 2 rfl (fun _ _ => rfl) (fun _ _ => rfl) (fun _ => rfl) (fun _ _ _ => rfl) t _ (hY 2))
  have e3 : Y 3 = W main_call0_v14_0 := funext (finds_whole 3 rfl (fun _ _ => rfl) (fun _ _ => rfl) (fun _ => rfl) (fun _ _ _ => rfl) t _ (hY 3))
  have e4 : Y 4 = W main_call0_v14_1 := funext (finds_whole 4 rfl (fun _ _ => rfl) (fun _ _ => rfl) (fun _ => rfl) (fun _ _ _ => rfl) t _ (hY 4))
  rw [bigSep_W13, bigSep_W13, row13]
  refine comb_wp comb13r comb13i c Set.univ _ _ _ _ _ _ _ _ _ (Y 0) (Y 1) (Y 2) (Y 3) (Y 4) (Y 5) (Y 6) (after_in rfl t _) (after_in rfl t _) (after_in rfl t _) (after_in rfl t _) (after_in rfl t _)
    (after_whole 5 rfl (fun _ _ => rfl) (fun _ => rfl) t _ _ fun j => ?_) (after_whole 6 rfl (fun _ _ => rfl) (fun _ => rfl) t _ _ fun j => ?_)
  all_goals rw [e0, e1, e2, e3, e4]
  · exact congrFun ((upd_of_ne _ main_call0_v37_1 (comb13i (W main_arg14) (lo (W main_call0_v35)) (hi (W main_call0_v35)) (lo (W main_call0_v36)) (hi (W main_call0_v36)) (W main_call0_v14_0) (W main_call0_v14_1)) main_call0_v37_0 (by decide)).trans (upd_self W main_call0_v37_0 _)).symm j
  · exact congrFun (upd_self (upd W main_call0_v37_0 (comb13r (W main_arg14) (lo (W main_call0_v35)) (hi (W main_call0_v35)) (lo (W main_call0_v36)) (hi (W main_call0_v36)) (W main_call0_v14_0) (W main_call0_v14_1))) main_call0_v37_1 _).symm j

/-- Launch 14's body. -/
theorem row14 (t : Fin cfg14.N) : defs₀ (F := F) .tc cfg14.body (cfg14.bodyArgs t (cfg14.slots t)) = bodyAt14 t := by
  unfold defs₀; rw [Defs.onTc_tc]

/-- What launch 14's first pass leaves. -/
abbrev kept14 (W : Valuation τ sig (Elt F)) : Fin 8 → Vec F S256x2048 .f32 :=
  first k14_pay2 (W main_arg8) (W main_arg9) (W main_call0_v21) (W main_call0_v32)

/-- Launch 14's data: the scratch holds the blocks of the first pass reached, and an output buffer counts from the second
    pass on. -/
abbrev blocks14 (c : Dev nD) (W : Valuation τ sig (Elt F)) : RDat τ (Elt F) Unit ℕ (UR sig nD τ) ℕ cfg14 c :=
  rdat cfg14 c W (stepAt 18 W) (fun t => 8 ≤ t.val) fun t =>
    iprop(heldRows (kept14 W) (min t.val 8) c (Memref.whole cc14_scratch0)
      ∗ Pipeline.scopedRestBut spec14 c [cc14_scratch0] ∗ ∃ r, prngReg c r)

/-- The blocks a point of launch 14 is on. -/
theorem index14 : ∀ t : Fin grid9.N, (win14_0.index t = ![t.val % 8, 0] ∧ win14_1.index t = ![t.val % 8, 0]
    ∧ win14_2.index t = ![t.val / 8, 0, 0]) ∧ win14_3.index t = ![0, 0] ∧ win14_4.index t = ![t.val % 8, 0] := by decide +kernel

/-- Launch 14 leaves its array, block by block. -/
theorem body14 (c : Dev nD) (W : Valuation τ sig (Elt F)) : (blocks14 c W).BodyObligation defs₀ 𝒱₀ () Set.univ := by
  intro t Y hY
  have hN : t.val < 16 := t.isLt
  obtain ⟨⟨i0, i1, i2⟩, i3, i4⟩ := index14 t
  have e0 : Y 0 = rowBlk (W main_arg8) ⟨t.val % 8, Nat.mod_lt _ (by decide)⟩ := funext fun x =>
    finds_at 0 rfl (fun _ _ => rfl) (fun _ _ _ => rfl) rfl t _ (hY 0) x _ (row_at i0 x)
  have e1 : Y 1 = rowBlk (W main_arg9) ⟨t.val % 8, Nat.mod_lt _ (by decide)⟩ := funext fun x =>
    finds_at 1 rfl (fun _ _ => rfl) (fun _ _ _ => rfl) rfl t _ (hY 1) x _ (row_at i1 x)
  have e2 : Y 2 = slab (W main_call0_v21) ⟨t.val / 8, by omega⟩ := funext fun x =>
    finds_at 2 rfl (fun _ _ => rfl) (fun _ _ _ => rfl) rfl t _ (hY 2) x _ (slab_at i2 x)
  have e3 : Y 3 = W main_call0_v32 := funext fun x =>
    finds_at 3 rfl (fun _ _ => rfl) (fun _ _ _ => rfl) rfl t _ (hY 3) x x (one_at i3 x)
  rw [bigSep_W14, bigSep_W14, row14]
  refine constr_wp k14_pay2 k14_pay3 t c Set.univ _ _ _ _ _ _ _ (hstage14_4 ((cfg14.slots t 4).cast nbuf14_4)) _ (Y 0) (Y 1) (Y 2) (Y 3) (Y 4) (kept14 W) (after_in rfl t _) (after_in rfl t _) (after_in rfl t _) (after_in rfl t _)
    (fun h => ?_) (fun h => ?_) fun b hb => ?_
  · rw [e0, e1, e2, e3]
    exact first_eq _ _ _ _ _ t h
  · exact after_at 4 rfl rfl t _ _ fun hg => absurd hg (show ¬ 8 ≤ t.val by omega)
  · refine after_at 4 rfl rfl t _ _ fun hg j => ⟨ValueIdx.ix2 ⟨256 * b.val + (j 0).val, by have := idx2_lt0 j; omega⟩ ⟨(j 1).val, idx2_lt1 j⟩, ?_, ?_⟩
    · exact row_at (b := b) (i4.trans (by rw [show t.val % 8 = b.val by omega])) j
    · rw [e0, e1, e2, e3]
      exact (second_eq k14_pay2 k14_pay3 _ _ _ _ t b hb j).trans (congrFun (upd_self W main_call0_v38 _).symm _)

/-- Launch 15's body. -/
theorem row15 (t : Fin cfg15.N) : defs₀ (F := F) .tc cfg15.body (cfg15.bodyArgs t (cfg15.slots t)) = bodyAt15 t := by
  unfold defs₀; rw [Defs.onTc_tc]

/-- What launch 15's first pass leaves. -/
abbrev kept15 (W : Valuation τ sig (Elt F)) : Fin 8 → Vec F S256x2048 .f32 :=
  first k15_pay2 (W main_arg9) (W main_arg8) (W main_call0_v21) (W main_call0_v32)

/-- Launch 15's data: the scratch holds the blocks of the first pass reached, and an output buffer counts from the second
    pass on. -/
abbrev blocks15 (c : Dev nD) (W : Valuation τ sig (Elt F)) : RDat τ (Elt F) Unit ℕ (UR sig nD τ) ℕ cfg15 c :=
  rdat cfg15 c W (stepAt 19 W) (fun t => 8 ≤ t.val) fun t =>
    iprop(heldRows (kept15 W) (min t.val 8) c (Memref.whole cc15_scratch0)
      ∗ Pipeline.scopedRestBut spec15 c [cc15_scratch0] ∗ ∃ r, prngReg c r)

/-- The blocks a point of launch 15 is on. -/
theorem index15 : ∀ t : Fin grid9.N, (win15_0.index t = ![t.val % 8, 0] ∧ win15_1.index t = ![t.val % 8, 0]
    ∧ win15_2.index t = ![t.val / 8, 0, 0]) ∧ win15_3.index t = ![0, 0] ∧ win15_4.index t = ![t.val % 8, 0] := by decide +kernel

/-- Launch 15 leaves its array, block by block. -/
theorem body15 (c : Dev nD) (W : Valuation τ sig (Elt F)) : (blocks15 c W).BodyObligation defs₀ 𝒱₀ () Set.univ := by
  intro t Y hY
  have hN : t.val < 16 := t.isLt
  obtain ⟨⟨i0, i1, i2⟩, i3, i4⟩ := index15 t
  have e0 : Y 0 = rowBlk (W main_arg9) ⟨t.val % 8, Nat.mod_lt _ (by decide)⟩ := funext fun x =>
    finds_at 0 rfl (fun _ _ => rfl) (fun _ _ _ => rfl) rfl t _ (hY 0) x _ (row_at i0 x)
  have e1 : Y 1 = rowBlk (W main_arg8) ⟨t.val % 8, Nat.mod_lt _ (by decide)⟩ := funext fun x =>
    finds_at 1 rfl (fun _ _ => rfl) (fun _ _ _ => rfl) rfl t _ (hY 1) x _ (row_at i1 x)
  have e2 : Y 2 = slab (W main_call0_v21) ⟨t.val / 8, by omega⟩ := funext fun x =>
    finds_at 2 rfl (fun _ _ => rfl) (fun _ _ _ => rfl) rfl t _ (hY 2) x _ (slab_at i2 x)
  have e3 : Y 3 = W main_call0_v32 := funext fun x =>
    finds_at 3 rfl (fun _ _ => rfl) (fun _ _ _ => rfl) rfl t _ (hY 3) x x (one_at i3 x)
  rw [bigSep_W15, bigSep_W15, row15]
  refine constr_wp k15_pay2 k15_pay3 t c Set.univ _ _ _ _ _ _ _ (hstage15_4 ((cfg15.slots t 4).cast nbuf15_4)) _ (Y 0) (Y 1) (Y 2) (Y 3) (Y 4) (kept15 W) (after_in rfl t _) (after_in rfl t _) (after_in rfl t _) (after_in rfl t _)
    (fun h => ?_) (fun h => ?_) fun b hb => ?_
  · rw [e0, e1, e2, e3]
    exact first_eq _ _ _ _ _ t h
  · exact after_at 4 rfl rfl t _ _ fun hg => absurd hg (show ¬ 8 ≤ t.val by omega)
  · refine after_at 4 rfl rfl t _ _ fun hg j => ⟨ValueIdx.ix2 ⟨256 * b.val + (j 0).val, by have := idx2_lt0 j; omega⟩ ⟨(j 1).val, idx2_lt1 j⟩, ?_, ?_⟩
    · exact row_at (b := b) (i4.trans (by rw [show t.val % 8 = b.val by omega])) j
    · rw [e0, e1, e2, e3]
      exact (second_eq k15_pay2 k15_pay3 _ _ _ _ t b hb j).trans (congrFun (upd_self W main_call0_v39 _).symm _)

/-- Launch 16's body. -/
theorem row16 (t : Fin cfg16.N) : defs₀ (F := F) .tc cfg16.body (cfg16.bodyArgs t (cfg16.slots t)) = bodyAt16 t := by
  unfold defs₀; rw [Defs.onTc_tc]

/-- Launch 16 leaves its product. -/
theorem body16 (c : Dev nD) (W : Valuation τ sig (Elt F)) : (whole cfg16 20 c W).BodyObligation defs₀ 𝒱₀ () Set.univ := by
  intro t Y hY
  have e0 : Y 0 = W main_call0_v38 := funext (finds_whole 0 rfl (fun _ _ => rfl) (fun _ _ => rfl) (fun _ => rfl) (fun _ _ _ => rfl) t _ (hY 0))
  have e1 : Y 1 = W main_call0_v37_0 := funext (finds_whole 1 rfl (fun _ _ => rfl) (fun _ _ => rfl) (fun _ => rfl) (fun _ _ _ => rfl) t _ (hY 1))
  have e2 : Y 2 = W main_call0_v37_1 := funext (finds_whole 2 rfl (fun _ _ => rfl) (fun _ _ => rfl) (fun _ => rfl) (fun _ _ _ => rfl) t _ (hY 2))
  rw [bigSep_W16, bigSep_W16, row16]
  refine pair_wp k16_pay1 c Set.univ _ _ _ _ _ _ (Y 0) (Y 1) (Y 2) (Y 3) (after_in rfl t _) (after_in rfl t _) (after_in rfl t _)
    (after_whole 3 rfl (fun _ _ => rfl) (fun _ => rfl) t _ _ fun j => ?_)
  rw [e0, e1, e2]
  exact congrFun (upd_self W main_call0_v40 _).symm j

/-- Launch 17's body. -/
theorem row17 (t : Fin cfg17.N) : defs₀ (F := F) .tc cfg17.body (cfg17.bodyArgs t (cfg17.slots t)) = bodyAt17 t := by
  unfold defs₀; rw [Defs.onTc_tc]

/-- Launch 17 leaves its product. -/
theorem body17 (c : Dev nD) (W : Valuation τ sig (Elt F)) : (whole cfg17 21 c W).BodyObligation defs₀ 𝒱₀ () Set.univ := by
  intro t Y hY
  have e0 : Y 0 = W main_call0_v39 := funext (finds_whole 0 rfl (fun _ _ => rfl) (fun _ _ => rfl) (fun _ => rfl) (fun _ _ _ => rfl) t _ (hY 0))
  have e1 : Y 1 = W main_call0_v37_0 := funext (finds_whole 1 rfl (fun _ _ => rfl) (fun _ _ => rfl) (fun _ => rfl) (fun _ _ _ => rfl) t _ (hY 1))
  have e2 : Y 2 = W main_call0_v37_1 := funext (finds_whole 2 rfl (fun _ _ => rfl) (fun _ _ => rfl) (fun _ => rfl) (fun _ _ _ => rfl) t _ (hY 2))
  rw [bigSep_W17, bigSep_W17, row17]
  refine pair_wp k17_pay1 c Set.univ _ _ _ _ _ _ (Y 0) (Y 1) (Y 2) (Y 3) (after_in rfl t _) (after_in rfl t _) (after_in rfl t _)
    (after_whole 3 rfl (fun _ _ => rfl) (fun _ => rfl) t _ _ fun j => ?_)
  rw [e0, e1, e2]
  exact congrFun (upd_self W main_call0_v41 _).symm j

/-- Launch 18's body. -/
theorem row18 (t : Fin cfg18.N) : defs₀ (F := F) .tc cfg18.body (cfg18.bodyArgs t (cfg18.slots t)) = bodyAt18 t := by
  unfold defs₀; rw [Defs.onTc_tc]

/-- Launch 18 leaves its two payloads. -/
theorem body18 (c : Dev nD) (W : Valuation τ sig (Elt F)) : (whole cfg18 22 c W).BodyObligation defs₀ 𝒱₀ () Set.univ := by
  intro t Y hY
  have e0 : Y 0 = W main_call0_v40 := funext (finds_whole 0 rfl (fun _ _ => rfl) (fun _ _ => rfl) (fun _ => rfl) (fun _ _ _ => rfl) t _ (hY 0))
  have e1 : Y 1 = W main_call0_v41 := funext (finds_whole 1 rfl (fun _ _ => rfl) (fun _ _ => rfl) (fun _ => rfl) (fun _ _ _ => rfl) t _ (hY 1))
  have e2 : Y 2 = W main_arg15 := funext (finds_whole 2 rfl (fun _ _ => rfl) (fun _ _ => rfl) (fun _ => rfl) (fun _ _ _ => rfl) t _ (hY 2))
  have e3 : Y 3 = W main_call0_v37_0 := funext (finds_whole 3 rfl (fun _ _ => rfl) (fun _ _ => rfl) (fun _ => rfl) (fun _ _ _ => rfl) t _ (hY 3))
  have e4 : Y 4 = W main_call0_v37_1 := funext (finds_whole 4 rfl (fun _ _ => rfl) (fun _ _ => rfl) (fun _ => rfl) (fun _ _ _ => rfl) t _ (hY 4))
  rw [bigSep_W18, bigSep_W18, row18]
  refine comb_wp comb18r comb18i c Set.univ _ _ _ _ _ _ _ _ _ (Y 0) (Y 1) (Y 2) (Y 3) (Y 4) (Y 5) (Y 6) (after_in rfl t _) (after_in rfl t _) (after_in rfl t _) (after_in rfl t _) (after_in rfl t _)
    (after_whole 5 rfl (fun _ _ => rfl) (fun _ => rfl) t _ _ fun j => ?_) (after_whole 6 rfl (fun _ _ => rfl) (fun _ => rfl) t _ _ fun j => ?_)
  all_goals rw [e0, e1, e2, e3, e4]
  · exact congrFun ((upd_of_ne _ main_call0_v42_1 (comb18i (W main_arg15) (lo (W main_call0_v40)) (hi (W main_call0_v40)) (lo (W main_call0_v41)) (hi (W main_call0_v41)) (W main_call0_v37_0) (W main_call0_v37_1)) main_call0_v42_0 (by decide)).trans (upd_self W main_call0_v42_0 _)).symm j
  · exact congrFun (upd_self (upd W main_call0_v42_0 (comb18r (W main_arg15) (lo (W main_call0_v40)) (hi (W main_call0_v40)) (lo (W main_call0_v41)) (hi (W main_call0_v41)) (W main_call0_v37_0) (W main_call0_v37_1))) main_call0_v42_1 _).symm j

/-- Launch 19's body. -/
theorem row19 (t : Fin cfg19.N) : defs₀ (F := F) .tc cfg19.body (cfg19.bodyArgs t (cfg19.slots t)) = bodyAt19 t := by
  unfold defs₀; rw [Defs.onTc_tc]

/-- Launch 19 leaves its payload. -/
theorem body19 (c : Dev nD) (W : Valuation τ sig (Elt F)) : (whole cfg19 24 c W).BodyObligation defs₀ 𝒱₀ () Set.univ := by
  intro t Y hY
  have e0 : Y 0 = W main_call0_v42_0 := funext (finds_whole 0 rfl (fun _ _ => rfl) (fun _ _ => rfl) (fun _ => rfl) (fun _ _ _ => rfl) t _ (hY 0))
  have e1 : Y 1 = W main_call0_v42_1 := funext (finds_whole 1 rfl (fun _ _ => rfl) (fun _ _ => rfl) (fun _ => rfl) (fun _ _ _ => rfl) t _ (hY 1))
  have e2 : Y 2 = W main_arg16 := funext (finds_whole 2 rfl (fun _ _ => rfl) (fun _ _ => rfl) (fun _ => rfl) (fun _ _ _ => rfl) t _ (hY 2))
  have e3 : Y 3 = W main_call0_v43 := funext (finds_whole 3 rfl (fun _ _ => rfl) (fun _ _ => rfl) (fun _ => rfl) (fun _ _ _ => rfl) t _ (hY 3))
  rw [bigSep_W19, bigSep_W19, row19]
  refine head_wp c Set.univ _ _ _ _ _ _ _ _ _ _ _ _ (Y 0) (Y 1) (Y 2) (Y 3) (Y 4) (after_in rfl t _) (after_in rfl t _) (after_in rfl t _) (after_in rfl t _)
    (after_whole 4 rfl (fun _ _ => rfl) (fun _ => rfl) t _ _ fun j => ?_)
  rw [e0, e1, e2, e3]
  exact congrFun (upd_self W main_call0_v44 _).symm j

end Cert.KernelIdeal.Value

end
-- ==== Proof.Run.lean ====
/- The whole program: its launches and host stretches one after the other, from launch to end. -/
module

public import proofs.«01_k».proof.Proof.Launches

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Idealize.ShloMosaic.ValueIdx (idx2_lt0 idx2_lt1)
open Cert.KernelIdeal.Gen

variable {F : FTy → Type} [FloatOps F]

local notation "𝕄" => MT nD τ sig Unit (Elt F) ℕ (UR sig nD τ) ℕ

section Scratch

variable (c : Dev nD) (arg7 : Memref sig .tc .vmem S2048x2048 .f32) (f : Fin 8 → Vec F S256x2048 .f32)

/-- A scratch buffer at anything holds no block yet. -/
theorem held_of_any (h : arg7.view.set = Finset.univ) :
    iprop(∃ v, arg7.view.loc (c : Thread nD τ) ↦{fullShare} v) ⊢ (heldRows f 0 c arg7 : sProp 𝕄) := by
  unfold heldRows owns
  rw [h]
  iintro ⟨%v, Hv⟩
  iexists arg7.view.read (Elt F) v
  isplitr; · ipureintro; exact fun y hy => absurd hy (by omega)
  iexists v
  isplitr; · ipureintro; rfl
  iexact Hv

/-- A scratch buffer holding its blocks is at something. -/
theorem any_of_held (n : ℕ) (h : arg7.view.set = Finset.univ) :
    (heldRows f n c arg7 : sProp 𝕄) ⊢ iprop(∃ v, arg7.view.loc (c : Thread nD τ) ↦{fullShare} v) := by
  unfold heldRows owns
  rw [h]
  iintro ⟨%S, %hS, %v, %hv, Hv⟩
  iexists v
  iexact Hv

end Scratch

/-- The row of a block's element is in the block that the row's number gives. -/
theorem mem_row {ix : Fin 2 → ℕ} {b : ℕ} (h : ix = ![b, 0]) (y : S2048x2048.Idx) (hb : (y 0).val / 256 = b) :
    ∀ a : Fin 2, ix a * S256x2048.size a ≤ (y a).val ∧ (y a).val < ix a * S256x2048.size a + S256x2048.size a := by
  subst h
  have h0 := idx2_lt0 y
  have h1 := idx2_lt1 y
  exact Fin.forall_fin_two.mpr ⟨by show b * 256 ≤ (y 0).val ∧ (y 0).val < b * 256 + 256; omega,
    by show 0 * 2048 ≤ (y 1).val ∧ (y 1).val < 0 * 2048 + 2048; omega⟩

/-- The buffers of each core at launch. -/
abbrev Mem (F : FTy → Type) [FloatOps F] := Dev nD → Valuation τ sig (Elt F)

/-- Each launch's data, entered with the buffers as the steps before it leave them. -/
def rdats (V : Mem F) : (p : Fin 20) → (c : Dev nD) → RDat τ (Elt F) Unit ℕ (UR sig nD τ) ℕ (Pipeline.pin (pcfgs (F := F)) adm p) c
  | ⟨0, _⟩ => fun c => whole cfg0 1 c (bd (V c) 1)
  | ⟨1, _⟩ => fun c => whole cfg1 2 c (bd (V c) 2)
  | ⟨2, _⟩ => fun c => whole cfg2 3 c (bd (V c) 3)
  | ⟨3, _⟩ => fun c => whole cfg3 5 c (bd (V c) 5)
  | ⟨4, _⟩ => fun c => whole cfg4 6 c (bd (V c) 6)
  | ⟨5, _⟩ => fun c => whole cfg5 7 c (bd (V c) 7)
  | ⟨6, _⟩ => fun c => whole cfg6 9 c (bd (V c) 9)
  | ⟨7, _⟩ => fun c => whole cfg7 10 c (bd (V c) 10)
  | ⟨8, _⟩ => fun c => whole cfg8 11 c (bd (V c) 11)
  | ⟨9, _⟩ => fun c => blocks9 c (bd (V c) 13)
  | ⟨10, _⟩ => fun c => blocks10 c (bd (V c) 14)
  | ⟨11, _⟩ => fun c => whole cfg11 15 c (bd (V c) 15)
  | ⟨12, _⟩ => fun c => whole cfg12 16 c (bd (V c) 16)
  | ⟨13, _⟩ => fun c => whole cfg13 17 c (bd (V c) 17)
  | ⟨14, _⟩ => fun c => blocks14 c (bd (V c) 18)
  | ⟨15, _⟩ => fun c => blocks15 c (bd (V c) 19)
  | ⟨16, _⟩ => fun c => whole cfg16 20 c (bd (V c) 20)
  | ⟨17, _⟩ => fun c => whole cfg17 21 c (bd (V c) 21)
  | ⟨18, _⟩ => fun c => whole cfg18 22 c (bd (V c) 22)
  | ⟨19, _⟩ => fun c => whole cfg19 24 c (bd (V c) 24)
  | ⟨n + 20, h⟩ => absurd h (by omega)

/-- A launch without a grid, step `s` of the program, as a segment. -/
def launched (V : Mem F) (p : Fin 20) (kit : Pipeline.LaunchFacts (nD := nD) (τ := τ) cfgs p) (s : ℕ)
    (hrd : ∀ c, rdats V p c = rdat (Pipeline.pin (pcfgs (F := F)) adm p) c (bd (V c) s) (bd (V c) (s + 1)) (fun _ => True)
      fun _ => Pipeline.ΦA (Pipeline.pin (pcfgs (F := F)) adm p).spec c)
    (hbody : ∀ c, (rdats V p c).BodyObligation defs₀ 𝒱₀ () Set.univ)
    (hin : ∀ w, ((Pipeline.pin (pcfgs (F := F)) adm p).win w).isOut = false →
      Pipeline.arrRef (Pipeline.pin (pcfgs (F := F)) adm p).spec w ∉ stepW s)
    (t₀ : Fin (Pipeline.pin (pcfgs (F := F)) adm p).N)
    (hwh : ∀ w, ((Pipeline.pin (pcfgs (F := F)) adm p).win w).isOut = true →
      ((Pipeline.pin (pcfgs (F := F)) adm p).win w).WholeAt t₀ ∧ ((Pipeline.pin (pcfgs (F := F)) adm p).win w).kind = .blocked)
    (hrest : ∀ b ∈ stepW s, b ∈ Finset.univ.image (Pipeline.arrRef (Pipeline.pin (pcfgs (F := F)) adm p).spec)) :
    Pipeline.RDat.RegionSeg (pcfgs (F := F)) adm (rdats V) () defs₀ 𝒱₀ L lv p :=
  regionWhole (rdats V) p kit (fun c => bd (V c) s) (fun c => bd (V c) (s + 1)) hrd hbody
    (fun c w hw => step_keep (bd (V c) s) _ s (hin w hw)) t₀ hwh
    (fun c b hb => step_keep (bd (V c) s) b s fun h => hb (hrest b h))

/-- Launch 0 as a segment. -/
def reg0 (V : Mem F) : Pipeline.RDat.RegionSeg (pcfgs (F := F)) adm (rdats V) () defs₀ 𝒱₀ L lv 0 :=
  launched V 0 launch0 1 (fun _ => rfl) (fun c => body0 c (bd (V c) 1))
    (show ∀ w, (cfg0.win w).isOut = false → Pipeline.arrRef cfg0.spec w ∉ stepW 1 from by decide) t0_0
    (show ∀ w, (cfg0.win w).isOut = true → (cfg0.win w).WholeAt t0_0 ∧ (cfg0.win w).kind = .blocked from by decide)
    (show ∀ b ∈ stepW 1, b ∈ Finset.univ.image (Pipeline.arrRef cfg0.spec) from by decide)

/-- Launch 1 as a segment. -/
def reg1 (V : Mem F) : Pipeline.RDat.RegionSeg (pcfgs (F := F)) adm (rdats V) () defs₀ 𝒱₀ L lv 1 :=
  launched V 1 launch1 2 (fun _ => rfl) (fun c => body1 c (bd (V c) 2))
    (show ∀ w, (cfg1.win w).isOut = false → Pipeline.arrRef cfg1.spec w ∉ stepW 2 from by decide) t1_0
    (show ∀ w, (cfg1.win w).isOut = true → (cfg1.win w).WholeAt t1_0 ∧ (cfg1.win w).kind = .blocked from by decide)
    (show ∀ b ∈ stepW 2, b ∈ Finset.univ.image (Pipeline.arrRef cfg1.spec) from by decide)

/-- Launch 2 as a segment. -/
def reg2 (V : Mem F) : Pipeline.RDat.RegionSeg (pcfgs (F := F)) adm (rdats V) () defs₀ 𝒱₀ L lv 2 :=
  launched V 2 launch2 3 (fun _ => rfl) (fun c => body2 c (bd (V c) 3))
    (show ∀ w, (cfg2.win w).isOut = false → Pipeline.arrRef cfg2.spec w ∉ stepW 3 from by decide) t2_0
    (show ∀ w, (cfg2.win w).isOut = true → (cfg2.win w).WholeAt t2_0 ∧ (cfg2.win w).kind = .blocked from by decide)
    (show ∀ b ∈ stepW 3, b ∈ Finset.univ.image (Pipeline.arrRef cfg2.spec) from by decide)

/-- Launch 3 as a segment. -/
def reg3 (V : Mem F) : Pipeline.RDat.RegionSeg (pcfgs (F := F)) adm (rdats V) () defs₀ 𝒱₀ L lv 3 :=
  launched V 3 launch3 5 (fun _ => rfl) (fun c => body3 c (bd (V c) 5))
    (show ∀ w, (cfg3.win w).isOut = false → Pipeline.arrRef cfg3.spec w ∉ stepW 5 from by decide) t3_0
    (show ∀ w, (cfg3.win w).isOut = true → (cfg3.win w).WholeAt t3_0 ∧ (cfg3.win w).kind = .blocked from by decide)
    (show ∀ b ∈ stepW 5, b ∈ Finset.univ.image (Pipeline.arrRef cfg3.spec) from by decide)

/-- Launch 4 as a segment. -/
def reg4 (V : Mem F) : Pipeline.RDat.RegionSeg (pcfgs (F := F)) adm (rdats V) () defs₀ 𝒱₀ L lv 4 :=
  launched V 4 launch4 6 (fun _ => rfl) (fun c => body4 c (bd (V c) 6))
    (show ∀ w, (cfg4.win w).isOut = false → Pipeline.arrRef cfg4.spec w ∉ stepW 6 from by decide) t4_0
    (show ∀ w, (cfg4.win w).isOut = true → (cfg4.win w).WholeAt t4_0 ∧ (cfg4.win w).kind = .blocked from by decide)
    (show ∀ b ∈ stepW 6, b ∈ Finset.univ.image (Pipeline.arrRef cfg4.spec) from by decide)

/-- Launch 5 as a segment. -/
def reg5 (V : Mem F) : Pipeline.RDat.RegionSeg (pcfgs (F := F)) adm (rdats V) () defs₀ 𝒱₀ L lv 5 :=
  launched V 5 launch5 7 (fun _ => rfl) (fun c => body5 c (bd (V c) 7))
    (show ∀ w, (cfg5.win w).isOut = false → Pipeline.arrRef cfg5.spec w ∉ stepW 7 from by decide) t5_0
    (show ∀ w, (cfg5.win w).isOut = true → (cfg5.win w).WholeAt t5_0 ∧ (cfg5.win w).kind = .blocked from by decide)
    (show ∀ b ∈ stepW 7, b ∈ Finset.univ.image (Pipeline.arrRef cfg5.spec) from by decide)

/-- Launch 6 as a segment. -/
def reg6 (V : Mem F) : Pipeline.RDat.RegionSeg (pcfgs (F := F)) adm (rdats V) () defs₀ 𝒱₀ L lv 6 :=
  launched V 6 launch6 9 (fun _ => rfl) (fun c => body6 c (bd (V c) 9))
    (show ∀ w, (cfg6.win w).isOut = false → Pipeline.arrRef cfg6.spec w ∉ stepW 9 from by decide) t6_0
    (show ∀ w, (cfg6.win w).isOut = true → (cfg6.win w).WholeAt t6_0 ∧ (cfg6.win w).kind = .blocked from by decide)
    (show ∀ b ∈ stepW 9, b ∈ Finset.univ.image (Pipeline.arrRef cfg6.spec) from by decide)

/-- Launch 7 as a segment. -/
def reg7 (V : Mem F) : Pipeline.RDat.RegionSeg (pcfgs (F := F)) adm (rdats V) () defs₀ 𝒱₀ L lv 7 :=
  launched V 7 launch7 10 (fun _ => rfl) (fun c => body7 c (bd (V c) 10))
    (show ∀ w, (cfg7.win w).isOut = false → Pipeline.arrRef cfg7.spec w ∉ stepW 10 from by decide) t7_0
    (show ∀ w, (cfg7.win w).isOut = true → (cfg7.win w).WholeAt t7_0 ∧ (cfg7.win w).kind = .blocked from by decide)
    (show ∀ b ∈ stepW 10, b ∈ Finset.univ.image (Pipeline.arrRef cfg7.spec) from by decide)

/-- Launch 8 as a segment. -/
def reg8 (V : Mem F) : Pipeline.RDat.RegionSeg (pcfgs (F := F)) adm (rdats V) () defs₀ 𝒱₀ L lv 8 :=
  launched V 8 launch8 11 (fun _ => rfl) (fun c => body8 c (bd (V c) 11))
    (show ∀ w, (cfg8.win w).isOut = false → Pipeline.arrRef cfg8.spec w ∉ stepW 11 from by decide) t8_0
    (show ∀ w, (cfg8.win w).isOut = true → (cfg8.win w).WholeAt t8_0 ∧ (cfg8.win w).kind = .blocked from by decide)
    (show ∀ b ∈ stepW 11, b ∈ Finset.univ.image (Pipeline.arrRef cfg8.spec) from by decide)

/-- Every element of launch 9's array is in a block that the second pass writes. -/
theorem cover9 (w : Fin cfg9.W) (hw : (cfg9.win w).isOut = true) (y : (cfg9.win w).arr.view.ty.Idx) :
    ∃ t : Fin cfg9.N, (cfg9.win w).flush t = true ∧ y ∈ (((cfg9.win w).blk t).view.set : Finset (cfg9.win w).arr.view.ty.Idx)
      ∧ ∀ t' : Fin cfg9.N, t ≤ t' → 8 ≤ t'.val := by
  match w, hw, y with
  | ⟨4, _⟩, _, y =>
    have h0 : (y 0).val < 2048 := idx2_lt0 (n0 := 2048) (n1 := 2048) y
    have hN : grid9.N = 16 := by decide
    refine ⟨⟨8 + (y 0).val / 256, by show 8 + (y 0).val / 256 < grid9.N; omega⟩, flush9_4 _, ?_, fun t' h => ?_⟩
    · exact (win9_4.emb_mem_blk_iff _ y rfl).mpr (mem_row (index9 _).2.2 y (by show (y 0).val / 256 = (8 + (y 0).val / 256) % 8; omega))
    · have : 8 + (y 0).val / 256 ≤ t'.val := h
      omega
  | ⟨0, _⟩, hw, _ | ⟨1, _⟩, hw, _ | ⟨2, _⟩, hw, _ | ⟨3, _⟩, hw, _ => exact Bool.noConfusion hw

set_option backward.isDefEq.respectTransparency.types false in
/-- Launch 9 as a segment. -/
def reg9 (V : Mem F) : Pipeline.RDat.RegionSeg (pcfgs (F := F)) adm (rdats V) () defs₀ 𝒱₀ L lv 9 :=
  region (rdats V) 9 launch9 (fun c => bd (V c) 13) (fun c => bd (V c) 14) (fun c => body9 c (bd (V c) 13))
    (fun _ _ => rfl) (fun _ _ => rfl) (fun _ => rfl) (fun c w => rdat_share (cfg := cfg9) w)
    (fun c => by
      show Pipeline.ΦA spec9 c ⊢ iprop(heldRows (kept9 (bd (V c) 13)) 0 c (Memref.whole cc9_scratch0)
        ∗ Pipeline.scopedRestBut spec9 c [cc9_scratch0] ∗ ∃ r, prngReg c r)
      unfold Pipeline.ΦA
      rw [scopedRest9_split]
      iintro ⟨⟨H, Hr⟩, Hp⟩
      isplitl [H]
      · iapply held_of_any c (Memref.whole cc9_scratch0) (kept9 (bd (V c) 13)) (Memref.isWhole_whole _).set_eq_univ
        iexact H
      isplitl [Hr]; · iexact Hr
      iexact Hp)
    (fun c => by
      show iprop(heldRows (kept9 (bd (V c) 13)) 8 c (Memref.whole cc9_scratch0)
        ∗ Pipeline.scopedRestBut spec9 c [cc9_scratch0] ∗ ∃ r, prngReg c r) ⊢ Pipeline.ΦA spec9 c
      unfold Pipeline.ΦA
      rw [scopedRest9_split]
      iintro ⟨H, Hr, Hp⟩
      isplitl [H Hr]
      · isplitl [H]
        · iapply any_of_held c (Memref.whole cc9_scratch0) (kept9 (bd (V c) 13)) 8 (Memref.isWhole_whole _).set_eq_univ
          iexact H
        iexact Hr
      iexact Hp)
    (fun c w G h => arr_final (cfg := cfg9) (fun w' hw => step_keep (bd (V c) 13) _ 13
      ((by decide : ∀ w, (cfg9.win w).isOut = false → Pipeline.arrRef cfg9.spec w ∉ stepW 13) w' hw)) (cover9) w G h)
    (fun c b hb => step_keep (bd (V c) 13) b 13 fun h => hb
      ((by decide : ∀ b ∈ stepW 13, b ∈ Finset.univ.image (Pipeline.arrRef cfg9.spec)) b h))

/-- Every element of launch 10's array is in a block that the second pass writes. -/
theorem cover10 (w : Fin cfg10.W) (hw : (cfg10.win w).isOut = true) (y : (cfg10.win w).arr.view.ty.Idx) :
    ∃ t : Fin cfg10.N, (cfg10.win w).flush t = true ∧ y ∈ (((cfg10.win w).blk t).view.set : Finset (cfg10.win w).arr.view.ty.Idx)
      ∧ ∀ t' : Fin cfg10.N, t ≤ t' → 8 ≤ t'.val := by
  match w, hw, y with
  | ⟨4, _⟩, _, y =>
    have h0 : (y 0).val < 2048 := idx2_lt0 (n0 := 2048) (n1 := 2048) y
    have hN : grid9.N = 16 := by decide
    refine ⟨⟨8 + (y 0).val / 256, by show 8 + (y 0).val / 256 < grid9.N; omega⟩, flush10_4 _, ?_, fun t' h => ?_⟩
    · exact (win10_4.emb_mem_blk_iff _ y rfl).mpr (mem_row (index10 _).2.2 y (by show (y 0).val / 256 = (8 + (y 0).val / 256) % 8; omega))
    · have : 8 + (y 0).val / 256 ≤ t'.val := h
      omega
  | ⟨0, _⟩, hw, _ | ⟨1, _⟩, hw, _ | ⟨2, _⟩, hw, _ | ⟨3, _⟩, hw, _ => exact Bool.noConfusion hw

set_option backward.isDefEq.respectTransparency.types false in
/-- Launch 10 as a segment. -/
def reg10 (V : Mem F) : Pipeline.RDat.RegionSeg (pcfgs (F := F)) adm (rdats V) () defs₀ 𝒱₀ L lv 10 :=
  region (rdats V) 10 launch10 (fun c => bd (V c) 14) (fun c => bd (V c) 15) (fun c => body10 c (bd (V c) 14))
    (fun _ _ => rfl) (fun _ _ => rfl) (fun _ => rfl) (fun c w => rdat_share (cfg := cfg10) w)
    (fun c => by
      show Pipeline.ΦA spec10 c ⊢ iprop(heldRows (kept10 (bd (V c) 14)) 0 c (Memref.whole cc10_scratch0)
        ∗ Pipeline.scopedRestBut spec10 c [cc10_scratch0] ∗ ∃ r, prngReg c r)
      unfold Pipeline.ΦA
      rw [scopedRest10_split]
      iintro ⟨⟨H, Hr⟩, Hp⟩
      isplitl [H]
      · iapply held_of_any c (Memref.whole cc10_scratch0) (kept10 (bd (V c) 14)) (Memref.isWhole_whole _).set_eq_univ
        iexact H
      isplitl [Hr]; · iexact Hr
      iexact Hp)
    (fun c => by
      show iprop(heldRows (kept10 (bd (V c) 14)) 8 c (Memref.whole cc10_scratch0)
        ∗ Pipeline.scopedRestBut spec10 c [cc10_scratch0] ∗ ∃ r, prngReg c r) ⊢ Pipeline.ΦA spec10 c
      unfold Pipeline.ΦA
      rw [scopedRest10_split]
      iintro ⟨H, Hr, Hp⟩
      isplitl [H Hr]
      · isplitl [H]
        · iapply any_of_held c (Memref.whole cc10_scratch0) (kept10 (bd (V c) 14)) 8 (Memref.isWhole_whole _).set_eq_univ
          iexact H
        iexact Hr
      iexact Hp)
    (fun c w G h => arr_final (cfg := cfg10) (fun w' hw => step_keep (bd (V c) 14) _ 14
      ((by decide : ∀ w, (cfg10.win w).isOut = false → Pipeline.arrRef cfg10.spec w ∉ stepW 14) w' hw)) (cover10) w G h)
    (fun c b hb => step_keep (bd (V c) 14) b 14 fun h => hb
      ((by decide : ∀ b ∈ stepW 14, b ∈ Finset.univ.image (Pipeline.arrRef cfg10.spec)) b h))

/-- Launch 11 as a segment. -/
def reg11 (V : Mem F) : Pipeline.RDat.RegionSeg (pcfgs (F := F)) adm (rdats V) () defs₀ 𝒱₀ L lv 11 :=
  launched V 11 launch11 15 (fun _ => rfl) (fun c => body11 c (bd (V c) 15))
    (show ∀ w, (cfg11.win w).isOut = false → Pipeline.arrRef cfg11.spec w ∉ stepW 15 from by decide) t11_0
    (show ∀ w, (cfg11.win w).isOut = true → (cfg11.win w).WholeAt t11_0 ∧ (cfg11.win w).kind = .blocked from by decide)
    (show ∀ b ∈ stepW 15, b ∈ Finset.univ.image (Pipeline.arrRef cfg11.spec) from by decide)

/-- Launch 12 as a segment. -/
def reg12 (V : Mem F) : Pipeline.RDat.RegionSeg (pcfgs (F := F)) adm (rdats V) () defs₀ 𝒱₀ L lv 12 :=
  launched V 12 launch12 16 (fun _ => rfl) (fun c => body12 c (bd (V c) 16))
    (show ∀ w, (cfg12.win w).isOut = false → Pipeline.arrRef cfg12.spec w ∉ stepW 16 from by decide) t12_0
    (show ∀ w, (cfg12.win w).isOut = true → (cfg12.win w).WholeAt t12_0 ∧ (cfg12.win w).kind = .blocked from by decide)
    (show ∀ b ∈ stepW 16, b ∈ Finset.univ.image (Pipeline.arrRef cfg12.spec) from by decide)

/-- Launch 13 as a segment. -/
def reg13 (V : Mem F) : Pipeline.RDat.RegionSeg (pcfgs (F := F)) adm (rdats V) () defs₀ 𝒱₀ L lv 13 :=
  launched V 13 launch13 17 (fun _ => rfl) (fun c => body13 c (bd (V c) 17))
    (show ∀ w, (cfg13.win w).isOut = false → Pipeline.arrRef cfg13.spec w ∉ stepW 17 from by decide) t13_0
    (show ∀ w, (cfg13.win w).isOut = true → (cfg13.win w).WholeAt t13_0 ∧ (cfg13.win w).kind = .blocked from by decide)
    (show ∀ b ∈ stepW 17, b ∈ Finset.univ.image (Pipeline.arrRef cfg13.spec) from by decide)

/-- Every element of launch 14's array is in a block that the second pass writes. -/
theorem cover14 (w : Fin cfg14.W) (hw : (cfg14.win w).isOut = true) (y : (cfg14.win w).arr.view.ty.Idx) :
    ∃ t : Fin cfg14.N, (cfg14.win w).flush t = true ∧ y ∈ (((cfg14.win w).blk t).view.set : Finset (cfg14.win w).arr.view.ty.Idx)
      ∧ ∀ t' : Fin cfg14.N, t ≤ t' → 8 ≤ t'.val := by
  match w, hw, y with
  | ⟨4, _⟩, _, y =>
    have h0 : (y 0).val < 2048 := idx2_lt0 (n0 := 2048) (n1 := 2048) y
    have hN : grid9.N = 16 := by decide
    refine ⟨⟨8 + (y 0).val / 256, by show 8 + (y 0).val / 256 < grid9.N; omega⟩, flush14_4 _, ?_, fun t' h => ?_⟩
    · exact (win14_4.emb_mem_blk_iff _ y rfl).mpr (mem_row (index14 _).2.2 y (by show (y 0).val / 256 = (8 + (y 0).val / 256) % 8; omega))
    · have : 8 + (y 0).val / 256 ≤ t'.val := h
      omega
  | ⟨0, _⟩, hw, _ | ⟨1, _⟩, hw, _ | ⟨2, _⟩, hw, _ | ⟨3, _⟩, hw, _ => exact Bool.noConfusion hw

set_option backward.isDefEq.respectTransparency.types false in
/-- Launch 14 as a segment. -/
def reg14 (V : Mem F) : Pipeline.RDat.RegionSeg (pcfgs (F := F)) adm (rdats V) () defs₀ 𝒱₀ L lv 14 :=
  region (rdats V) 14 launch14 (fun c => bd (V c) 18) (fun c => bd (V c) 19) (fun c => body14 c (bd (V c) 18))
    (fun _ _ => rfl) (fun _ _ => rfl) (fun _ => rfl) (fun c w => rdat_share (cfg := cfg14) w)
    (fun c => by
      show Pipeline.ΦA spec14 c ⊢ iprop(heldRows (kept14 (bd (V c) 18)) 0 c (Memref.whole cc14_scratch0)
        ∗ Pipeline.scopedRestBut spec14 c [cc14_scratch0] ∗ ∃ r, prngReg c r)
      unfold Pipeline.ΦA
      rw [scopedRest14_split]
      iintro ⟨⟨H, Hr⟩, Hp⟩
      isplitl [H]
      · iapply held_of_any c (Memref.whole cc14_scratch0) (kept14 (bd (V c) 18)) (Memref.isWhole_whole _).set_eq_univ
        iexact H
      isplitl [Hr]; · iexact Hr
      iexact Hp)
    (fun c => by
      show iprop(heldRows (kept14 (bd (V c) 18)) 8 c (Memref.whole cc14_scratch0)
        ∗ Pipeline.scopedRestBut spec14 c [cc14_scratch0] ∗ ∃ r, prngReg c r) ⊢ Pipeline.ΦA spec14 c
      unfold Pipeline.ΦA
      rw [scopedRest14_split]
      iintro ⟨H, Hr, Hp⟩
      isplitl [H Hr]
      · isplitl [H]
        · iapply any_of_held c (Memref.whole cc14_scratch0) (kept14 (bd (V c) 18)) 8 (Memref.isWhole_whole _).set_eq_univ
          iexact H
        iexact Hr
      iexact Hp)
    (fun c w G h => arr_final (cfg := cfg14) (fun w' hw => step_keep (bd (V c) 18) _ 18
      ((by decide : ∀ w, (cfg14.win w).isOut = false → Pipeline.arrRef cfg14.spec w ∉ stepW 18) w' hw)) (cover14) w G h)
    (fun c b hb => step_keep (bd (V c) 18) b 18 fun h => hb
      ((by decide : ∀ b ∈ stepW 18, b ∈ Finset.univ.image (Pipeline.arrRef cfg14.spec)) b h))

/-- Every element of launch 15's array is in a block that the second pass writes. -/
theorem cover15 (w : Fin cfg15.W) (hw : (cfg15.win w).isOut = true) (y : (cfg15.win w).arr.view.ty.Idx) :
    ∃ t : Fin cfg15.N, (cfg15.win w).flush t = true ∧ y ∈ (((cfg15.win w).blk t).view.set : Finset (cfg15.win w).arr.view.ty.Idx)
      ∧ ∀ t' : Fin cfg15.N, t ≤ t' → 8 ≤ t'.val := by
  match w, hw, y with
  | ⟨4, _⟩, _, y =>
    have h0 : (y 0).val < 2048 := idx2_lt0 (n0 := 2048) (n1 := 2048) y
    have hN : grid9.N = 16 := by decide
    refine ⟨⟨8 + (y 0).val / 256, by show 8 + (y 0).val / 256 < grid9.N; omega⟩, flush15_4 _, ?_, fun t' h => ?_⟩
    · exact (win15_4.emb_mem_blk_iff _ y rfl).mpr (mem_row (index15 _).2.2 y (by show (y 0).val / 256 = (8 + (y 0).val / 256) % 8; omega))
    · have : 8 + (y 0).val / 256 ≤ t'.val := h
      omega
  | ⟨0, _⟩, hw, _ | ⟨1, _⟩, hw, _ | ⟨2, _⟩, hw, _ | ⟨3, _⟩, hw, _ => exact Bool.noConfusion hw

set_option backward.isDefEq.respectTransparency.types false in
/-- Launch 15 as a segment. -/
def reg15 (V : Mem F) : Pipeline.RDat.RegionSeg (pcfgs (F := F)) adm (rdats V) () defs₀ 𝒱₀ L lv 15 :=
  region (rdats V) 15 launch15 (fun c => bd (V c) 19) (fun c => bd (V c) 20) (fun c => body15 c (bd (V c) 19))
    (fun _ _ => rfl) (fun _ _ => rfl) (fun _ => rfl) (fun c w => rdat_share (cfg := cfg15) w)
    (fun c => by
      show Pipeline.ΦA spec15 c ⊢ iprop(heldRows (kept15 (bd (V c) 19)) 0 c (Memref.whole cc15_scratch0)
        ∗ Pipeline.scopedRestBut spec15 c [cc15_scratch0] ∗ ∃ r, prngReg c r)
      unfold Pipeline.ΦA
      rw [scopedRest15_split]
      iintro ⟨⟨H, Hr⟩, Hp⟩
      isplitl [H]
      · iapply held_of_any c (Memref.whole cc15_scratch0) (kept15 (bd (V c) 19)) (Memref.isWhole_whole _).set_eq_univ
        iexact H
      isplitl [Hr]; · iexact Hr
      iexact Hp)
    (fun c => by
      show iprop(heldRows (kept15 (bd (V c) 19)) 8 c (Memref.whole cc15_scratch0)
        ∗ Pipeline.scopedRestBut spec15 c [cc15_scratch0] ∗ ∃ r, prngReg c r) ⊢ Pipeline.ΦA spec15 c
      unfold Pipeline.ΦA
      rw [scopedRest15_split]
      iintro ⟨H, Hr, Hp⟩
      isplitl [H Hr]
      · isplitl [H]
        · iapply any_of_held c (Memref.whole cc15_scratch0) (kept15 (bd (V c) 19)) 8 (Memref.isWhole_whole _).set_eq_univ
          iexact H
        iexact Hr
      iexact Hp)
    (fun c w G h => arr_final (cfg := cfg15) (fun w' hw => step_keep (bd (V c) 19) _ 19
      ((by decide : ∀ w, (cfg15.win w).isOut = false → Pipeline.arrRef cfg15.spec w ∉ stepW 19) w' hw)) (cover15) w G h)
    (fun c b hb => step_keep (bd (V c) 19) b 19 fun h => hb
      ((by decide : ∀ b ∈ stepW 19, b ∈ Finset.univ.image (Pipeline.arrRef cfg15.spec)) b h))

/-- Launch 16 as a segment. -/
def reg16 (V : Mem F) : Pipeline.RDat.RegionSeg (pcfgs (F := F)) adm (rdats V) () defs₀ 𝒱₀ L lv 16 :=
  launched V 16 launch16 20 (fun _ => rfl) (fun c => body16 c (bd (V c) 20))
    (show ∀ w, (cfg16.win w).isOut = false → Pipeline.arrRef cfg16.spec w ∉ stepW 20 from by decide) t16_0
    (show ∀ w, (cfg16.win w).isOut = true → (cfg16.win w).WholeAt t16_0 ∧ (cfg16.win w).kind = .blocked from by decide)
    (show ∀ b ∈ stepW 20, b ∈ Finset.univ.image (Pipeline.arrRef cfg16.spec) from by decide)

/-- Launch 17 as a segment. -/
def reg17 (V : Mem F) : Pipeline.RDat.RegionSeg (pcfgs (F := F)) adm (rdats V) () defs₀ 𝒱₀ L lv 17 :=
  launched V 17 launch17 21 (fun _ => rfl) (fun c => body17 c (bd (V c) 21))
    (show ∀ w, (cfg17.win w).isOut = false → Pipeline.arrRef cfg17.spec w ∉ stepW 21 from by decide) t17_0
    (show ∀ w, (cfg17.win w).isOut = true → (cfg17.win w).WholeAt t17_0 ∧ (cfg17.win w).kind = .blocked from by decide)
    (show ∀ b ∈ stepW 21, b ∈ Finset.univ.image (Pipeline.arrRef cfg17.spec) from by decide)

/-- Launch 18 as a segment. -/
def reg18 (V : Mem F) : Pipeline.RDat.RegionSeg (pcfgs (F := F)) adm (rdats V) () defs₀ 𝒱₀ L lv 18 :=
  launched V 18 launch18 22 (fun _ => rfl) (fun c => body18 c (bd (V c) 22))
    (show ∀ w, (cfg18.win w).isOut = false → Pipeline.arrRef cfg18.spec w ∉ stepW 22 from by decide) t18_0
    (show ∀ w, (cfg18.win w).isOut = true → (cfg18.win w).WholeAt t18_0 ∧ (cfg18.win w).kind = .blocked from by decide)
    (show ∀ b ∈ stepW 22, b ∈ Finset.univ.image (Pipeline.arrRef cfg18.spec) from by decide)

/-- Launch 19 as a segment. -/
def reg19 (V : Mem F) : Pipeline.RDat.RegionSeg (pcfgs (F := F)) adm (rdats V) () defs₀ 𝒱₀ L lv 19 :=
  launched V 19 launch19 24 (fun _ => rfl) (fun c => body19 c (bd (V c) 24))
    (show ∀ w, (cfg19.win w).isOut = false → Pipeline.arrRef cfg19.spec w ∉ stepW 24 from by decide) t19_0
    (show ∀ w, (cfg19.win w).isOut = true → (cfg19.win w).WholeAt t19_0 ∧ (cfg19.win w).kind = .blocked from by decide)
    (show ∀ b ∈ stepW 24, b ∈ Finset.univ.image (Pipeline.arrRef cfg19.spec) from by decide)

/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's segments in order. -/
abbrev segs (V : Mem F) : List (Pipeline.RDat.Seg (pcfgs (F := F)) adm (rdats V) () defs₀ 𝒱₀ L lv) :=
  [ .host (stretch hostOps0 hostOps0_sub hostOps0_fresh fun c => bd (V c) 0),
    .region (reg0 V),
    .region (reg1 V),
    .region (reg2 V),
    .host (stretch hostOps3 hostOps3_sub hostOps3_fresh fun c => bd (V c) 4),
    .region (reg3 V),
    .region (reg4 V),
    .region (reg5 V),
    .host (stretch hostOps6 hostOps6_sub hostOps6_fresh fun c => bd (V c) 8),
    .region (reg6 V),
    .region (reg7 V),
    .region (reg8 V),
    .host (stretch hostOps9 hostOps9_sub hostOps9_fresh fun c => bd (V c) 12),
    .region (reg9 V),
    .region (reg10 V),
    .region (reg11 V),
    .region (reg12 V),
    .region (reg13 V),
    .region (reg14 V),
    .region (reg15 V),
    .region (reg16 V),
    .region (reg17 V),
    .region (reg18 V),
    .host (stretch hostOps19 hostOps19_sub hostOps19_fresh fun c => bd (V c) 23),
    .region (reg19 V),
    .host (stretch hostOps20 hostOps20_sub hostOps20_fresh fun c => bd (V c) 25) ]

/-- The program is the run of its segments. -/
theorem main_run (V : Mem F) (c : Dev nD) : main (F := F) c = Pipeline.RDat.Seg.run (segs V) := (main_chain c).trans (by chain_rfl)

/-- A buffer of no scope is among those the program holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The core has no semaphore outside a scope. -/
theorem no_unscoped : ∀ sm : SemLoc sig, sm.isScoped .tc = true := by decide

/-- The buffers a memory gives a core. -/
def start (m : (ℓ : Loc nD τ sig) → Buf (Elt F) ℓ) : Mem F := fun c b => m (((c : Thread nD τ)).1, b)

set_option backward.isDefEq.respectTransparency.types false in
/-- From any memory the program ends, with every buffer at what the steps leave and every counter at zero. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, ∀ b : Ref sig .tc, ¬ (Proc.devRef .tc b : DevRef τ sig).isScoped →
        r.2.mem ((c.tc : Thread nD τ).loc b) = bd (start m c) 26 (Proc.devRef .tc b)) ∧ r.2.sem = fun _ => 0) :=
  Pipeline.RDat.θ_run_regions_kit_sems (pcfgs (F := F)) adm (rdats (start m)) () cellOf_inj emb₁ defs₀ 𝒱₀ L lv m ρ main (segs (start m))
    (fun c Q => by rw [main_run (start m) c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (fun c => bd (start m c) 0))
    (Tₙ := fun c => iprop(StableHlo.held (c : Thread nD τ) (Pipeline.ucRefs τ sig) (bd (start m c) 26) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show St (fun c => bd (start m c) 26) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (start m c)
        from Pipeline.unscopedBufs_held c (start m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd (start m c) 26 b)
    (hfin := fun c s' => by
      iintro ⟨⟨Hh, -⟩, HSI⟩
      unfold StableHlo.held
      imodintro
      iapply (pointsTo_read_all (Pipeline.ucRefs τ sig) (fun b => (((c : Thread nD τ)).1, b)) (bd (start m c) 26) s')
      isplitl [Hh] <;> iassumption)
    (hQ := fun s h hz => ⟨fun c b hb => h c _ (mem_uc b hb), funext fun g => hz g (.inr (no_unscoped g.2))⟩)

end Cert.KernelIdeal.Value

end
-- ==== Proof.Frames.lean ====
/- The kernel's frame, at any float values: it ends, with its arguments as launched and every counter at zero. -/
module

public import proofs.«01_k».proof.Defs
public import proofs.«01_k».proof.Proof.Gen.Kernel
public import proofs.«01_k».proof.Proof.Run

@[expose] public section

set_option maxRecDepth 16384

noncomputable section

namespace Cert.KernelIdeal.Value

open Idealize.ShloMosaic Idealize.ShloMosaic.TcCoe Idealize.SL.Sem

variable {F : FTy → Type} [FloatOps F]

/-- The program writes none of its arguments: a buffer that no step writes ends as launched. -/
theorem unwritten (m : (ℓ : Loc nD τ sig) → Buf (Elt F) ℓ) (c : Dev nD) (b : Ref sig .tc) (h : ∀ i < 26, b ∉ stepW i) :
    bd (start m c) 26 (Proc.devRef .tc b) = m ((c.tc : Thread nD τ).loc b) :=
  (bd_keep (start m c) b 0 26 fun i hi => by rw [Nat.zero_add]; exact h i hi).trans rfl

/-- What the frame claims of the program, at any float values. -/
def Quiet (F : FTy → Type) [FloatOps F] [Facts] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0)
/-- The frame holds at any float values. -/
theorem quiet : @Quiet F _ Gen.facts := by
  intro m g _
  refine (θ_run (defs (F := F)) _ _).mono (fun r h => ?_) (run m g)
  refine ⟨fun c => ?_, h.2⟩
  have a : ∀ b : Ref sig .tc, ¬ (Proc.devRef .tc b : DevRef τ sig).isScoped → (∀ i < 26, b ∉ stepW i) →
      r.2.mem ((c.tc : Thread nD τ).loc b) = m ((c.tc : Thread nD τ).loc b) :=
    fun b hb hw => (h.1 c b hb).trans (unwritten m c b hw)
  and_intros <;> exact a _ (by decide) (by decide)

/-- The idealized kernel's frame is this one at the ideal values. -/
theorem quiet_ideal : @quiescent_KernelIdeal Gen.facts = @Quiet Ideal _ Gen.facts := by chain_rfl

/-- The kernel's frame is this one at bit patterns. -/
theorem quiet_bits : @quiescent_Kernel Cert.Kernel.Gen.facts = @Quiet Bits _ Gen.facts := by chain_rfl

end Cert.KernelIdeal.Value

end
-- ==== Proof.Layer.lean ====
/- What a layer of the network is, at the ideal values, and that the kernel's payloads compute it. -/
module

public import proofs.«01_k».proof.Proof.Steps
public import Idealize.ShloMosaic.Lib.StackMember
public import Idealize.ShloMosaic.Lib.KernelVsHost
public import Idealize.ShloMosaic.Lib.Pointwise

@[expose] public section

set_option maxRecDepth 16384

noncomputable section

namespace Cert.KernelIdeal.Value

open Idealize.ShloMosaic Idealize.ShloMosaic.TcCoe
open Idealize.ShloMosaic.ValueIdx (idx2_lt0 idx2_lt1 eq_ix2)
open Idealize.ShloMosaic.StackMember (dotGeneral_plain_apply)
open Cert.KernelIdeal.Gen

/-- A matrix of ideal values. -/
abbrev Mat (m n : ℕ) : Type := FVec Ideal ⟨2, ![m, n]⟩ .f32

/-- The product of two matrices. -/
def mul {m k n : ℕ} (A : Mat m k) (B : Mat k n) : Mat m n := Host.dotGeneral (DotDims.plain m k n) none A B

/-- A product's entry is the sum of the products along its row and column. -/
theorem mul_apply {m k n : ℕ} (A : Mat m k) (B : Mat k n) (a : Fin m) (b : Fin n) :
    mul A B (ValueIdx.ix2 a b) = ∑ c : Fin k, A (ValueIdx.ix2 a c) * B (ValueIdx.ix2 c b) :=
  dotGeneral_plain_apply none A B a b

/-- One where an entry is at least zero, zero elsewhere. -/
def mask {m n : ℕ} (t : Mat m n) : Mat m n := uitofp .f32 (cmpf .oge t (broadcast _ (Scalar.ofBits .f32 0x00000000#32)))

section Layers

variable (L L' : Mat 2048 2048) (W : Mat 128 128) (X Y : Mat 2048 128)

/-- The real part of the complex product with `L + L' i` and then with the weights. -/
def re : Mat 2048 128 := subf (mul (mul L X) W) (mul (mul L' Y) W)
/-- Its imaginary part. -/
def im : Mat 2048 128 := addf (mul (mul L' X) W) (mul (mul L Y) W)
/-- A Chebyshev layer's real part: the residual is added before the rectifier. -/
def chebRe : Mat 2048 128 := mulf (mask (addf (re L L' W X Y) X)) (addf (re L L' W X Y) X)
/-- Its imaginary part, rectified by the real part's sign. -/
def chebIm : Mat 2048 128 := mulf (mask (addf (re L L' W X Y) X)) (addf (im L L' W X Y) Y)
/-- A Lanczos layer's real part: the residual is added after the rectifier. -/
def lancRe : Mat 2048 128 := addf X (mulf (mask (re L L' W X Y)) (re L L' W X Y))
/-- Its imaginary part. -/
def lancIm : Mat 2048 128 := addf Y (mulf (mask (re L L' W X Y)) (im L L' W X Y))

/-- A product launch's payload, read at an entry: the product with the two matrices side by side. -/
theorem pair_apply (a : Fin 2048) (b : Fin 256) :
    k0_pay1 (F := Ideal) X Y L (ValueIdx.ix2 a b)
      = ∑ c : Fin 2048, L (ValueIdx.ix2 a c) * concatenate S2048x256 1 [⟨S2048x128, X⟩, ⟨S2048x128, Y⟩] concatenates_S2048x128_S2048x128_S2048x256_d1 (ValueIdx.ix2 c b) := by
  unfold k0_pay1
  rw [matmul_zero_eq_dotGeneral, shapeCast_self]
  exact dotGeneral_plain_apply (m := 2048) (n := 256) (k := 2048) (φ₁ := .bf16) (φ₂ := .bf16) none L
    (concatenate S2048x256 1 [⟨S2048x128, X⟩, ⟨S2048x128, Y⟩] concatenates_S2048x128_S2048x128_S2048x256_d1) a b

/-- The left half of the product with two matrices side by side is the product with the left one. -/
theorem lo_pair : lo (F := Ideal) (k0_pay1 (F := Ideal) X Y L) = mul L X := by
  funext i
  obtain ⟨a, b, rfl⟩ : ∃ (a : Fin 2048) (b : Fin 128), i = ValueIdx.ix2 a b := ⟨_, _, ValueIdx.eq_ix2 i⟩
  have e : lo (F := Ideal) (k0_pay1 (F := Ideal) X Y L) (ValueIdx.ix2 a b) = k0_pay1 (F := Ideal) X Y L (ValueIdx.ix2 a ⟨b.val, by omega⟩) :=
    View.ld_unit_apply_of _ _ _ _ _ _ (Fin.forall_fin_two.mpr ⟨(Nat.zero_add _).symm, (Nat.zero_add _).symm⟩)
  rw [e, pair_apply, mul_apply]
  refine Finset.sum_congr rfl fun c _ => congrArg _ ?_
  exact concatenate_pair_apply_left (t := S2048x256) 1 X Y _ (ValueIdx.ix2 c ⟨b.val, by omega⟩) rfl (ValueIdx.ix2 c b) (Fin.forall_fin_two.mpr ⟨rfl, rfl⟩)

/-- The right half is the product with the right one. -/
theorem hi_pair : hi (F := Ideal) (k0_pay1 (F := Ideal) X Y L) = mul L Y := by
  funext i
  obtain ⟨a, b, rfl⟩ : ∃ (a : Fin 2048) (b : Fin 128), i = ValueIdx.ix2 a b := ⟨_, _, ValueIdx.eq_ix2 i⟩
  have e : hi (F := Ideal) (k0_pay1 (F := Ideal) X Y L) (ValueIdx.ix2 a b) = k0_pay1 (F := Ideal) X Y L (ValueIdx.ix2 a ⟨128 + b.val, by omega⟩) :=
    View.ld_unit_apply_of _ _ _ _ _ _ (Fin.forall_fin_two.mpr ⟨(Nat.zero_add _).symm, rfl⟩)
  rw [e, pair_apply, mul_apply]
  refine Finset.sum_congr rfl fun c _ => congrArg _ ?_
  exact concatenate_pair_apply_right (t := S2048x256) 1 X Y _ (ValueIdx.ix2 c ⟨128 + b.val, by omega⟩) rfl rfl (ValueIdx.ix2 c b)
    (Fin.forall_fin_two.mpr ⟨fun _ => rfl, fun h => absurd rfl h⟩) (Nat.add_comm _ _)

/-- The kernel's product with the weights is the host's. -/
theorem weigh (A : Mat 2048 128) :
    matmul dot_S2048x128_S128x128_S2048x128_1_0_0_1_n_n none (truncf .bf16 A bitsLt_bf16_f32 : FVec Ideal S2048x128 .bf16)
      (k2_pay1 (F := Ideal) W) (constant S2048x128 .f32 0x00000000#32) = mul A W :=
  matmul_zero_eq_dotGeneral dot_S2048x128_S128x128_S2048x128_1_0_0_1_n_n none _ _

/-- The kernel's rectifier mask. -/
theorem mask_eq (t : Mat 2048 128) :
    (sitofp .f32 (extui 32 (cmpf .oge t (broadcast S2048x128 (Scalar.ofBits .f32 0x00000000#32 : Ideal .f32))) natLt_1_32) : FVec Ideal S2048x128 .f32)
      = mask t :=
  sitofp_extui_eq_uitofp _ _

/-- The kernel's real part before the rectifier, in a Lanczos layer. -/
theorem lanc_re : k13_pay2 (F := Ideal) W (mul L X) (mul L' Y) = re L L' W X Y := by
  unfold k13_pay2
  simp only [shapeCast_self]
  exact congrArg₂ subf (weigh W _) (weigh W _)

/-- The real part that the kernel leaves in a Lanczos layer. -/
theorem lanc_pay4 : k13_pay4 (F := Ideal) W (mul L X) (mul L' Y) X = lancRe L L' W X Y := by
  unfold k13_pay4 k13_pay3
  simp only [shapeCast_self, lanc_re, mask_eq]
  rfl

/-- The imaginary part that the kernel leaves in a Lanczos layer. -/
theorem lanc_pay5 : k13_pay5 (F := Ideal) W (mul L X) (mul L Y) (mul L' X) (mul L' Y) Y = lancIm L L' W X Y := by
  unfold k13_pay5 k13_pay3
  simp only [shapeCast_self, lanc_re, mask_eq]
  unfold lancIm im
  rw [← weigh W (mul L' X), ← weigh W (mul L Y)]
  rfl

/-- The kernel's real part before the rectifier, in a Chebyshev layer. -/
theorem cheb_re : k2_pay2 (F := Ideal) W (mul L X) (mul L' Y) X = addf (re L L' W X Y) X := by
  unfold k2_pay2
  simp only [shapeCast_self]
  exact congrArg (addf · X) (congrArg₂ subf (weigh W _) (weigh W _))

/-- The real part that the kernel leaves in a Chebyshev layer. -/
theorem cheb_pay4 : k2_pay4 (F := Ideal) W (mul L X) (mul L' Y) X = chebRe L L' W X Y := by
  unfold k2_pay4 k2_pay3
  simp only [cheb_re, mask_eq]
  rfl

/-- The imaginary part that the kernel leaves in a Chebyshev layer. -/
theorem cheb_pay5 : k2_pay5 (F := Ideal) W (mul L X) (mul L Y) (mul L' X) (mul L' Y) X Y = chebIm L L' W X Y := by
  unfold k2_pay5 k2_pay3
  simp only [shapeCast_self, cheb_re, mask_eq]
  unfold chebIm im
  rw [← weigh W (mul L' X), ← weigh W (mul L Y)]

end Layers

end Cert.KernelIdeal.Value

end
-- ==== Proof.Filter.lean ====
/- The values the constraint launches assemble: the two halves of a scaled product of a complex matrix with its adjoint. -/
module

public import proofs.«01_k».proof.Proof.Layer
public import Idealize.ShloMosaic.Lib.IdealHost

@[expose] public section

set_option maxRecDepth 16384

noncomputable section

namespace Cert.KernelIdeal.Value

open Idealize.ShloMosaic Idealize.ShloMosaic.TcCoe Idealize.ShloMosaic.Tactic
open Idealize.ShloMosaic.ValueIdx (idx2_lt0 idx2_lt1)
open Idealize.ShloMosaic.StackMember (dotGeneral_plain_apply)
open Cert.KernelIdeal.Gen

/-- A matrix with each column scaled by the row's entry there. -/
def scale (A : Mat 2048 500) (T : Mat 1 500) : Mat 2048 500 := fun i => A i * T (ValueIdx.ix2 0 ⟨(i 1).val, idx2_lt1 i⟩)

/-- The transpose. -/
def tr (A : Mat 2048 500) : Mat 500 2048 := transpose S500x2048 [1, 0] A transposes_S2048x500_S500x2048_1_0

/-- The transpose read at an entry. -/
theorem tr_apply (A : Mat 2048 500) (c : Fin 500) (j : Fin 2048) : tr A (ValueIdx.ix2 c j) = A (ValueIdx.ix2 j c) :=
  transpose_apply _ A _ _ _ (Fin.forall_fin_two.mpr ⟨rfl, rfl⟩)

/-- A scaled matrix times another's transpose. -/
def gram (A C : Mat 2048 500) (T : Mat 1 500) : Mat 2048 2048 := mul (scale A T) (tr C)

/-- Its entries. -/
theorem gram_apply (A C : Mat 2048 500) (T : Mat 1 500) (a j : Fin 2048) :
    gram A C T (ValueIdx.ix2 a j) = ∑ c : Fin 500, A (ValueIdx.ix2 a c) * T (ValueIdx.ix2 0 c) * C (ValueIdx.ix2 j c) := by
  unfold gram
  rw [mul_apply]
  exact Finset.sum_congr rfl fun c _ => congrArg _ (tr_apply C c j)

/-- A transpose with a leading unit axis. -/
def lead (C : Mat 2048 500) : FVec Ideal S1x500x2048 .bf16 :=
  broadcastInDim S1x500x2048 ![1, 2] bcast_S500x2048_S1x500x2048_1_2 (truncf .bf16 (tr C) bitsLt_bf16_f32 : FVec Ideal S500x2048 .bf16)

/-- It read at an entry. -/
theorem lead_apply (C : Mat 2048 500) (c : Fin 500) (j : Fin 2048) : lead C (ValueIdx.ix3 0 c j) = C (ValueIdx.ix2 j c) :=
  (broadcastInDim_apply _ _ _ _ (ValueIdx.ix2 c j) (Fin.forall_fin_two.mpr ⟨rfl, rfl⟩)).trans (tr_apply C c j)

/-- The two transposes laid behind one another. -/
def behind (C D : Mat 2048 500) : FVec Ideal S2x500x2048 .bf16 :=
  concatenate S2x500x2048 0 [⟨S1x500x2048, lead C⟩, ⟨S1x500x2048, lead D⟩] concatenates_S1x500x2048_S1x500x2048_S2x500x2048_d0

/-- The front slab is the first transpose. -/
theorem slab_zero (C D : Mat 2048 500) (c : Fin 500) (j : Fin 2048) : slab (behind C D) 0 (ValueIdx.ix3 0 c j) = C (ValueIdx.ix2 j c) :=
  (concatenate_pair_apply_left (t := S2x500x2048) (s₁ := S1x500x2048) (s₂ := S1x500x2048) 0 (lead C) (lead D)
    concatenates_S1x500x2048_S1x500x2048_S2x500x2048_d0 (ValueIdx.ix3 0 c j) rfl (ValueIdx.ix3 0 c j)
    (Fin.cases rfl (Fin.forall_fin_two.mpr ⟨rfl, rfl⟩))).trans (lead_apply C c j)

/-- The back slab is the second. -/
theorem slab_one (C D : Mat 2048 500) (c : Fin 500) (j : Fin 2048) : slab (behind C D) 1 (ValueIdx.ix3 0 c j) = D (ValueIdx.ix2 j c) :=
  (concatenate_pair_apply_right (t := S2x500x2048) (s₁ := S1x500x2048) (s₂ := S1x500x2048) 0 (lead C) (lead D)
    concatenates_S1x500x2048_S1x500x2048_S2x500x2048_d0 (ValueIdx.ix3 1 c j) rfl rfl (ValueIdx.ix3 0 c j)
    (Fin.cases (fun h => absurd rfl h) (Fin.forall_fin_two.mpr ⟨fun _ => rfl, fun _ => rfl⟩)) rfl).trans (lead_apply D c j)

/-- The pass a point belongs to, as the payload tests it. -/
theorem pass_test : ∀ (k : Fin 2) (b : Fin 8),
    Scalar.cmpi .eq (BitVec.ofNat 32 (crd k b 0).val) 0#32 = if k = 0 then 1#1 else 0#1 := by decide +kernel

/-- One pass's product at row `p` of block `b`. -/
theorem pass_apply (k : Fin 2) (b : Fin 8) (A B : Mat 2048 500) (T : Mat 1 500) (S : FVec Ideal S1x500x2048 .bf16)
    (p : Fin 256) (j : Fin 2048) (hp : 256 * b.val + p.val < 2048) :
    k9_pay1 (F := Ideal) (crd k b) T (rowBlk A b) (rowBlk B b) S (ValueIdx.ix2 p j)
      = ∑ c : Fin 500, (if k = 0 then A else B) (ValueIdx.ix2 ⟨256 * b.val + p.val, hp⟩ c) * T (ValueIdx.ix2 0 c) * S (ValueIdx.ix3 0 c j) := by
  unfold k9_pay1
  rw [matmul_zero_eq_dotGeneral, shapeCast_self]
  refine (dotGeneral_plain_apply (m := 256) (n := 2048) (k := 500) (φ₁ := .bf16) (φ₂ := .bf16) none
    (truncf .bf16 (mulf (Scalar.select (Scalar.cmpi .eq (BitVec.ofNat 32 (crd k b 0).val) 0#32) (rowBlk A b) (rowBlk B b))
      (broadcastTo S256x500 T broadcasts_S1x500_S256x500)) bitsLt_bf16_f32 : FVec Ideal S256x500 .bf16)
    (shapeCast S500x2048 S shapeCasts_S1x500x2048_S500x2048) p j).trans (Finset.sum_congr rfl fun c _ => ?_)
  have e : broadcastTo S256x500 T broadcasts_S1x500_S256x500 (ValueIdx.ix2 p c) = T (ValueIdx.ix2 0 c) :=
    broadcastTo_apply _ _ _ _ (Fin.forall_fin_two.mpr ⟨rfl, rfl⟩)
  refine congrArg₂ (· * ·) (congrArg₂ (· * ·) ?_ e) ?_
  · rw [pass_test]
    fin_cases k <;> rfl
  · refine shapeCast_apply (s := S1x500x2048) (t := S500x2048) S _ _ _ ?_
    rw [Shape.rowMajor_val_three, Shape.rowMajor_val_two]
    show (0 * 500 + c.val) * 2048 + j.val = c.val * 2048 + j.val
    omega

/-- The two passes together, the second weighted by `w`. -/
theorem passes (w : Ideal .f32) (pay₂ : Pay₂ Ideal) (pay₃ : Pay₃ Ideal)
    (h₂ : ∀ i T x y S, pay₂ i T x y S = k9_pay1 (F := Ideal) i T x y S)
    (h₃ : ∀ i T x y S R z, pay₃ i T x y S R z = R z + w * k9_pay1 (F := Ideal) i T x y S z)
    (A B C D : Mat 2048 500) (T : Mat 1 500) (a j : Fin 2048) :
    constr pay₂ pay₃ A B (behind C D) T (ValueIdx.ix2 a j)
      = gram A C T (ValueIdx.ix2 a j) + w * gram B D T (ValueIdx.ix2 a j) := by
  have hb : a.val / 256 < 8 := by omega
  have hp : a.val % 256 < 256 := by omega
  have hr : 256 * (a.val / 256) + a.val % 256 < 2048 := by omega
  have ha : (⟨256 * (a.val / 256) + a.val % 256, hr⟩ : Fin 2048) = a := Fin.ext (by show 256 * (a.val / 256) + a.val % 256 = a.val; omega)
  unfold constr
  rw [stack_apply _ ⟨a.val / 256, hb⟩ (ValueIdx.ix2 ⟨a.val % 256, hp⟩ j) _ ((Nat.div_add_mod _ _).symm) rfl, h₃]
  unfold first
  rw [h₂, pass_apply 0 ⟨a.val / 256, hb⟩ A B T _ ⟨a.val % 256, hp⟩ j hr, pass_apply 1 ⟨a.val / 256, hb⟩ A B T _ ⟨a.val % 256, hp⟩ j hr, gram_apply, gram_apply]
  simp only [ha, slab_zero, slab_one]
  rfl

/-- The real half: both products added. -/
def filtRe (A B : Mat 2048 500) (T : Mat 1 500) : Mat 2048 2048 := addf (gram A A T) (gram B B T)
/-- The imaginary half: one cross product less the other. -/
def filtIm (A B : Mat 2048 500) (T : Mat 1 500) : Mat 2048 2048 := subf (gram B A T) (gram A B T)

/-- The launch for the real half leaves it. -/
theorem constr_re (A B : Mat 2048 500) (T : Mat 1 500) :
    constr (F := Ideal) k9_pay2 k9_pay3 A B (behind A B) T = filtRe A B T := by
  funext i
  obtain ⟨a, j, rfl⟩ : ∃ (a : Fin 2048) (j : Fin 2048), i = ValueIdx.ix2 a j := ⟨_, _, ValueIdx.eq_ix2 i⟩
  refine (passes (Ideal.ofBits .f32 0x3F800000#32) k9_pay2 k9_pay3 (fun i T x y S => ?_) (fun i T x y S R z => rfl) A B A B T a j).trans ?_
  · exact shapeCast_self _ _
  rw [Ideal.ofBits_one_f32, one_mul]
  rfl

/-- The launch for the imaginary half, given the matrices the other way round, leaves it. -/
theorem constr_im (A B : Mat 2048 500) (T : Mat 1 500) :
    constr (F := Ideal) k10_pay2 k10_pay3 B A (behind A B) T = filtIm A B T := by
  funext i
  obtain ⟨a, j, rfl⟩ : ∃ (a : Fin 2048) (j : Fin 2048), i = ValueIdx.ix2 a j := ⟨_, _, ValueIdx.eq_ix2 i⟩
  refine (passes (Ideal.ofBits .f32 0xBF800000#32) k10_pay2 k10_pay3 (fun i T x y S => ?_) (fun i T x y S R z => rfl) B A A B T a j).trans ?_
  · exact shapeCast_self _ _
  rw [show Ideal.ofBits .f32 0xBF800000#32 = -1 from IdealRules.sign_bit.ideal_negOnePat .f32, neg_one_mul, ← sub_eq_add_neg]
  rfl

end Cert.KernelIdeal.Value

end
-- ==== Proof.Head.lean ====
/- The head: a two-channel linear layer of the last layer's two halves, and a logarithmic softmax over the channels. -/
module

public import proofs.«01_k».proof.Proof.Filter
public import Idealize.ShloMosaic.Lib.Pointwise
public import Idealize.ShloMosaic.Lib.ValueLayout

@[expose] public section

set_option maxRecDepth 16384

noncomputable section

namespace Cert.KernelIdeal.Value

open Idealize.ShloMosaic Idealize.ShloMosaic.TcCoe Idealize.ShloMosaic.Tactic
open Idealize.ShloMosaic.ValueIdx (idx2_lt0 idx2_lt1)
open Cert.KernelIdeal.Gen

/-- A channel's value at a node: the weighted sums of the node's two halves, and the channel's bias. -/
def logit (cw : Mat 2 256) (cb : FVec Ideal ⟨1, ![2]⟩ .f32) (Xr Xi : Mat 2048 128) (q : Fin 2) (a : Fin 2048) : EReal :=
  ((∑ c : Fin 128, cw (ValueIdx.ix2 q ⟨c.val, by omega⟩) * Xr (ValueIdx.ix2 a c))
    + ∑ c : Fin 128, cw (ValueIdx.ix2 q ⟨128 + c.val, by omega⟩) * Xi (ValueIdx.ix2 a c)) + cb (ValueIdx.ix1 q)

/-- The larger of a node's two channels. -/
def peak (z : Fin 2 → Fin 2048 → EReal) (a : Fin 2048) : EReal :=
  (Finset.univ : Finset (Fin 2)).fold max (Ideal.ofBits .f32 0xFF800000#32) fun q => z q a

/-- The logarithmic softmax over the two channels. -/
def logSoft (z : Fin 2 → Fin 2048 → EReal) (q : Fin 2) (a : Fin 2048) : EReal :=
  (z q a - peak z a) - Ideal.log (∑ q' : Fin 2, Ideal.exp (z q' a - peak z a))

/-- The kernel's two channels before the softmax. -/
def chan (Xr Xi : Mat 2048 128) (cw : Mat 2 256) (col : Mat 2 1) : Mat 2 2048 :=
  addf (addf
    (matmul dot_S2x128_S2048x128_S2x2048_1_1_0_0_n_n none (extractStridedSlice S2x128 ![0, 0] (truncf .bf16 cw bitsLt_bf16_f32 : FVec Ideal S2x256 .bf16) slices_S2x256_o0_0_S2x128)
      (truncf .bf16 Xr bitsLt_bf16_f32 : FVec Ideal S2048x128 .bf16) (constant S2x2048 .f32 0x00000000#32))
    (matmul dot_S2x128_S2048x128_S2x2048_1_1_0_0_n_n none (extractStridedSlice S2x128 ![0, 128] (truncf .bf16 cw bitsLt_bf16_f32 : FVec Ideal S2x256 .bf16) slices_S2x256_o0_128_S2x128)
      (truncf .bf16 Xi bitsLt_bf16_f32 : FVec Ideal S2048x128 .bf16) (constant S2x2048 .f32 0x00000000#32)))
    (broadcastTo S2x2048 col broadcasts_S2x1_S2x2048)

/-- A row put under itself, as the kernel spells it. -/
def down (r : FVec Ideal S2048 .f32) : FVec Ideal S1x2048 .f32 := shapeCast S1x2048 r shapeCasts_S2048_S1x2048

/-- The two channels less the larger. -/
def shifted (v : Mat 2 2048) : Mat 2 2048 :=
  subf v (broadcastTo S2x2048 (down (multiReduction .maximumf [0] S2048 v 0xFF800000#32 reduces_S2x2048_S2048 (.inl rfl) rfl)) broadcasts_S1x2048_S2x2048)

/-- The kernel's softmax of two channels. -/
def soft (v : Mat 2 2048) : Mat 2 2048 :=
  subf (shifted v) (broadcastTo S2x2048 (log (down (multiReduction .add [0] S2048 (exp (shifted v)) 0x00000000#32 reduces_S2x2048_S2048 (.inl rfl) rfl))) broadcasts_S1x2048_S2x2048)

/-- The head's payload is the softmax of the channels. -/
theorem head_eq (Xr Xi : Mat 2048 128) (cw : Mat 2 256) (col : Mat 2 1) :
    k19_pay1 (F := Ideal) Xr Xi cw col = soft (chan Xr Xi cw col) := by
  unfold k19_pay1
  simp only [shapeCast_self]
  rfl

/-- The product with a transposed right operand, read at an entry. -/
theorem dot_rows (A : FVec Ideal S2x128 .bf16) (B : FVec Ideal S2048x128 .bf16) (q : Fin 2) (a : Fin 2048) :
    matmul dot_S2x128_S2048x128_S2x2048_1_1_0_0_n_n none A B (constant S2x2048 .f32 0x00000000#32) (ValueIdx.ix2 q a)
      = ∑ c : Fin 128, A (ValueIdx.ix2 q c) * B (ValueIdx.ix2 a c) := by
  simp only [pointwise]
  exact zero_add _

/-- The kernel's channels are the reference's numbers. -/
theorem chan_apply (Xr Xi : Mat 2048 128) (cw : Mat 2 256) (cb : FVec Ideal ⟨1, ![2]⟩ .f32) (q : Fin 2) (a : Fin 2048) :
    chan Xr Xi cw (shapeCast S2x1 cb shapeCasts_S2_S2x1) (ValueIdx.ix2 q a) = logit cw cb Xr Xi q a := by
  unfold chan logit
  refine congrArg₂ (· + ·) (congrArg₂ (· + ·) ((dot_rows _ _ q a).trans ?_) ((dot_rows _ _ q a).trans ?_)) ?_
  · refine Finset.sum_congr rfl fun c _ => congrArg (· * _) ?_
    exact extractStridedSlice_apply _ _ _ _ _ (Fin.forall_fin_two.mpr ⟨(Nat.zero_add _).symm, (Nat.zero_add _).symm⟩)
  · refine Finset.sum_congr rfl fun c _ => congrArg (· * _) ?_
    exact extractStridedSlice_apply _ _ _ _ _ (Fin.forall_fin_two.mpr ⟨(Nat.zero_add _).symm, rfl⟩)
  · refine (broadcastTo_apply _ _ _ (ValueIdx.ix2 q 0) (Fin.forall_fin_two.mpr ⟨rfl, rfl⟩)).trans ?_
    refine shapeCast_apply (s := S2) (t := S2x1) _ _ _ _ ?_
    rw [Shape.rowMajor_val_one, Shape.rowMajor_val_two]
    show q.val = q.val * 1 + 0
    omega

/-- A row under itself read at a channel is the row. -/
theorem down_apply (r : FVec Ideal S1x2048 .f32) (q : Fin 2) (a : Fin 2048) :
    broadcastTo S2x2048 r broadcasts_S1x2048_S2x2048 (ValueIdx.ix2 q a) = r (ValueIdx.ix2 0 a) :=
  broadcastTo_apply _ _ _ _ (Fin.forall_fin_two.mpr ⟨rfl, rfl⟩)

/-- A row with a leading unit axis is the row. -/
theorem row_apply (r : FVec Ideal S2048 .f32) (a : Fin 2048) : down r (ValueIdx.ix2 0 a) = r (ValueIdx.ix1 a) := by
  refine shapeCast_apply (s := S2048) (t := S1x2048) _ _ _ _ ?_
  rw [Shape.rowMajor_val_one, Shape.rowMajor_val_two]
  show a.val = 0 * 2048 + a.val
  omega

/-- The index the reduction over the channels reads. -/
theorem lift_chan (a : Fin 2048) (q : Fin 2) : reduces_S2x2048_S2048.lift (ValueIdx.ix1 a) q = ValueIdx.ix2 q a :=
  funext (Fin.forall_fin_two.mpr ⟨rfl, rfl⟩)

/-- The shifted channels, read at an entry. -/
theorem shifted_apply (v : Mat 2 2048) (q : Fin 2) (a : Fin 2048) :
    shifted v (ValueIdx.ix2 q a) = v (ValueIdx.ix2 q a) - peak (fun q a => v (ValueIdx.ix2 q a)) a := by
  refine congrArg (v (ValueIdx.ix2 q a) - ·) ?_
  rw [down_apply, row_apply]
  refine (Ideal.multiReduction_maximumf_single v _ reduces_S2x2048_S2048 _ _ _).trans ?_
  exact congrArg (fun f : Fin 2 → EReal => (Finset.univ : Finset (Fin 2)).fold max (Ideal.ofBits .f32 0xFF800000#32) f)
    (funext fun q' => congrArg v (lift_chan a q'))

/-- The kernel's softmax read at an entry. -/
theorem soft_apply (v : Mat 2 2048) (q : Fin 2) (a : Fin 2048) :
    soft v (ValueIdx.ix2 q a) = logSoft (fun q a => v (ValueIdx.ix2 q a)) q a := by
  refine congrArg₂ (· - ·) (shifted_apply v q a) ?_
  refine (down_apply _ q a).trans (congrArg Ideal.log ?_)
  rw [row_apply]
  refine (Ideal.multiReduction_add_single _ _ reduces_S2x2048_S2048 _ _ _).trans (Finset.sum_congr rfl fun q' _ => ?_)
  exact congrArg Ideal.exp ((congrArg (shifted v) (lift_chan a q')).trans (shifted_apply v q' a))

/-- What the head leaves at a channel and node. -/
theorem head_apply (Xr Xi : Mat 2048 128) (cw : Mat 2 256) (cb : FVec Ideal ⟨1, ![2]⟩ .f32) (q : Fin 2) (a : Fin 2048) :
    k19_pay1 (F := Ideal) Xr Xi cw (shapeCast S2x1 cb shapeCasts_S2_S2x1) (ValueIdx.ix2 q a) = logSoft (logit cw cb Xr Xi) q a := by
  rw [head_eq, soft_apply]
  exact congrArg (logSoft · q a) (funext fun q => funext fun a => chan_apply Xr Xi cw cb q a)

end Cert.KernelIdeal.Value

end
-- ==== Proof.Net.lean ====
/- The network as a function of its eighteen arrays: three Chebyshev layers, two Lanczos layers and the head. -/
module

public import proofs.«01_k».proof.Proof.Head

@[expose] public section

set_option maxRecDepth 16384

noncomputable section

namespace Cert.KernelIdeal.Value

open Idealize.ShloMosaic
open Idealize.ShloMosaic.ValueIdx (idx2_lt1)

/-- The network's arrays, in the program's order. -/
structure Arrays where
  x : Mat 2048 128
  y : Mat 2048 128
  l₁ : Mat 2048 2048
  l₁' : Mat 2048 2048
  l₂ : Mat 2048 2048
  l₂' : Mat 2048 2048
  l₃ : Mat 2048 2048
  l₃' : Mat 2048 2048
  q : Mat 2048 500
  q' : Mat 2048 500
  ritz : FVec Ideal ⟨1, ![500]⟩ .f32
  w₁ : Mat 128 128
  w₂ : Mat 128 128
  w₃ : Mat 128 128
  w₄ : Mat 128 128
  w₅ : Mat 128 128
  cw : Mat 2 256
  cb : FVec Ideal ⟨1, ![2]⟩ .f32

/-- An array's fifth power, as both programs multiply it out. -/
def fifth (s : FVec Ideal ⟨1, ![500]⟩ .f32) : FVec Ideal ⟨1, ![500]⟩ .f32 := mulf s (mulf (mulf s s) (mulf s s))

/-- An array as a row. -/
def row (s : FVec Ideal ⟨1, ![500]⟩ .f32) : Mat 1 500 := fun i => s (ValueIdx.ix1 ⟨(i 1).val, idx2_lt1 i⟩)

namespace Arrays

variable (P : Arrays)

/-- The first Lanczos layer's powers: the tenth. -/
def t₄ : Mat 1 500 := row (fifth (mulf P.ritz P.ritz))
/-- The second's: the twentieth. -/
def t₅ : Mat 1 500 := row (fifth (mulf (mulf P.ritz P.ritz) (mulf P.ritz P.ritz)))

/-- The first Chebyshev layer. -/
def re₁ : Mat 2048 128 := chebRe P.l₁ P.l₁' P.w₁ P.x P.y
/-- Its imaginary half. -/
def im₁ : Mat 2048 128 := chebIm P.l₁ P.l₁' P.w₁ P.x P.y
/-- The second. -/
def re₂ : Mat 2048 128 := chebRe P.l₂ P.l₂' P.w₂ P.re₁ P.im₁
/-- Its imaginary half. -/
def im₂ : Mat 2048 128 := chebIm P.l₂ P.l₂' P.w₂ P.re₁ P.im₁
/-- The third. -/
def re₃ : Mat 2048 128 := chebRe P.l₃ P.l₃' P.w₃ P.re₂ P.im₂
/-- Its imaginary half. -/
def im₃ : Mat 2048 128 := chebIm P.l₃ P.l₃' P.w₃ P.re₂ P.im₂
/-- The first Lanczos layer. -/
def re₄ : Mat 2048 128 := lancRe (filtRe P.q P.q' P.t₄) (filtIm P.q P.q' P.t₄) P.w₄ P.re₃ P.im₃
/-- Its imaginary half. -/
def im₄ : Mat 2048 128 := lancIm (filtRe P.q P.q' P.t₄) (filtIm P.q P.q' P.t₄) P.w₄ P.re₃ P.im₃
/-- The second. -/
def re₅ : Mat 2048 128 := lancRe (filtRe P.q P.q' P.t₅) (filtIm P.q P.q' P.t₅) P.w₅ P.re₄ P.im₄
/-- Its imaginary half. -/
def im₅ : Mat 2048 128 := lancIm (filtRe P.q P.q' P.t₅) (filtIm P.q P.q' P.t₅) P.w₅ P.re₄ P.im₄

/-- The network's result. -/
def result : FVec Ideal ⟨3, ![1, 2, 2048]⟩ .f32 :=
  fun i => logSoft (logit P.cw P.cb P.re₅ P.im₅) ⟨(i 1).val, (i 1).isLt⟩ ⟨(i 2).val, (i 2).isLt⟩

end Arrays

end Cert.KernelIdeal.Value

end
-- ==== Proof.Track.lean ====
/- What the steps leave, layer by layer: the network of the launch's arrays. -/
module

public import proofs.«01_k».proof.Proof.Net

@[expose] public section

set_option maxRecDepth 16384

noncomputable section

namespace Cert.KernelIdeal.Value

open Idealize.ShloMosaic Idealize.ShloMosaic.TcCoe Idealize.ShloMosaic.Tactic
open Cert.KernelIdeal.Gen

variable (W : Valuation τ sig (Elt Ideal))

/-- The launch's arrays. -/
def arrays : Arrays where
  x := W main_arg0
  y := W main_arg1
  l₁ := W main_arg2
  l₁' := W main_arg3
  l₂ := W main_arg4
  l₂' := W main_arg5
  l₃ := W main_arg6
  l₃' := W main_arg7
  q := W main_arg8
  q' := W main_arg9
  ritz := W main_arg10
  w₁ := W main_arg11
  w₂ := W main_arg12
  w₃ := W main_arg13
  w₄ := W main_arg14
  w₅ := W main_arg15
  cw := W main_arg16
  cb := W main_arg17

/-- An array no step writes stands at every step as at the start. -/
theorem at_step (b : Ref sig .tc) (n : ℕ) (hn : n ≤ 26) (h : ∀ i < 26, b ∉ stepW i) : bd W n b = W b := by
  have e := bd_keep W b 0 n fun i hi => h _ (by omega)
  rw [Nat.zero_add] at e
  exact e

/-- A step that writes one buffer leaves it at what it writes. -/
theorem step₁ (k : ℕ) (b : Ref sig .tc) (f : Valuation τ sig (Elt Ideal) → (Proc.devRef (τ := τ) .tc b).ty.Contents (Elt Ideal))
    (h : stepAt k = fun V => upd V b (f V)) : bd W (k + 1) b = f (bd W k) := by
  show stepAt k (bd W k) _ = _
  rw [h]
  exact upd_self _ _ _

/-- A step that writes two leaves both so. -/
theorem step₂ (k : ℕ) (b b' : Ref sig .tc) (f : Valuation τ sig (Elt Ideal) → (Proc.devRef (τ := τ) .tc b).ty.Contents (Elt Ideal))
    (g : Valuation τ sig (Elt Ideal) → (Proc.devRef (τ := τ) .tc b').ty.Contents (Elt Ideal))
    (h : stepAt k = fun V => upd (upd V b (f V)) b' (g V)) (hne : b ≠ b') : bd W (k + 1) b = f (bd W k) ∧ bd W (k + 1) b' = g (bd W k) := by
  show stepAt k (bd W k) _ = _ ∧ stepAt k (bd W k) _ = _
  rw [h]
  exact ⟨(upd_of_ne _ _ _ _ hne).trans (upd_self _ _ _), upd_self _ _ _⟩

/-- A product launch's payload is the first one's, given the first one's up to casts of a shape to itself. -/
theorem pair_eq {pay : Vec Ideal S2048x128 .f32 → Vec Ideal S2048x128 .f32 → Vec Ideal S2048x2048 .bf16 → FVec Ideal S2048x256 .f32}
    (h : ∀ X Y L, pay X Y L = k0_pay1 (F := Ideal) (shapeCast S2048x128 X shapeCasts_S2048x128_S2048x128) (shapeCast S2048x128 Y shapeCasts_S2048x128_S2048x128) L) :
    pay = k0_pay1 (F := Ideal) := by
  funext X Y L
  rw [h, shapeCast_self, shapeCast_self]

/-- A product launch on equal arrays. -/
theorem pair_of {pay : Vec Ideal S2048x128 .f32 → Vec Ideal S2048x128 .f32 → Vec Ideal S2048x2048 .bf16 → FVec Ideal S2048x256 .f32}
    (h : pay = k0_pay1 (F := Ideal)) {X₀ X Y₀ Y : Mat 2048 128} {L₀ L : Mat 2048 2048} (hX : X₀ = X) (hY : Y₀ = Y) (hL : L₀ = L) :
    pay X₀ Y₀ L₀ = k0_pay1 (F := Ideal) X Y L := by rw [h, hX, hY, hL]

/-- A later Chebyshev combining launch's payloads are the first one's, with the residuals cast to their own shape. -/
theorem comb_eq {cr ci : CombPay Ideal}
    (hr : ∀ w p q r s X Y, cr w p q r s X Y = comb2r (F := Ideal) w p q r s (shapeCast S2048x128 X shapeCasts_S2048x128_S2048x128) Y)
    (hi : ∀ w p q r s X Y, ci w p q r s X Y = comb2i (F := Ideal) w p q r s (shapeCast S2048x128 X shapeCasts_S2048x128_S2048x128) (shapeCast S2048x128 Y shapeCasts_S2048x128_S2048x128)) :
    cr = comb2r (F := Ideal) ∧ ci = comb2i (F := Ideal) := by
  constructor <;> funext w p q r s X Y
  · rw [hr, shapeCast_self]
  · rw [hi, shapeCast_self, shapeCast_self]

section Combine

variable {cr ci : CombPay Ideal} {w₀ w : Mat 128 128} {P Q : Mat 2048 256} {X₀ X Y₀ Y : Mat 2048 128} {L L' : Mat 2048 2048}

/-- A Chebyshev layer's combining launch on the two products. -/
theorem cheb_of (hc : cr = comb2r (F := Ideal) ∧ ci = comb2i (F := Ideal)) (hw : w₀ = w) (hP : P = k0_pay1 (F := Ideal) X Y L)
    (hQ : Q = k0_pay1 (F := Ideal) X Y L') (hX : X₀ = X) (hY : Y₀ = Y) :
    cr w₀ (lo (F := Ideal) P) (hi (F := Ideal) P) (lo (F := Ideal) Q) (hi (F := Ideal) Q) X₀ Y₀ = chebRe L L' w X Y
    ∧ ci w₀ (lo (F := Ideal) P) (hi (F := Ideal) P) (lo (F := Ideal) Q) (hi (F := Ideal) Q) X₀ Y₀ = chebIm L L' w X Y := by
  rw [hc.1, hc.2]
  subst hw hP hQ hX hY
  simp only [lo_pair, hi_pair]
  exact ⟨cheb_pay4 .., cheb_pay5 ..⟩

/-- A Lanczos layer's. -/
theorem lanc_of (hc : cr = comb13r (F := Ideal) ∧ ci = comb13i (F := Ideal)) (hw : w₀ = w) (hP : P = k0_pay1 (F := Ideal) X Y L)
    (hQ : Q = k0_pay1 (F := Ideal) X Y L') (hX : X₀ = X) (hY : Y₀ = Y) :
    cr w₀ (lo (F := Ideal) P) (hi (F := Ideal) P) (lo (F := Ideal) Q) (hi (F := Ideal) Q) X₀ Y₀ = lancRe L L' w X Y
    ∧ ci w₀ (lo (F := Ideal) P) (hi (F := Ideal) P) (lo (F := Ideal) Q) (hi (F := Ideal) Q) X₀ Y₀ = lancIm L L' w X Y := by
  rw [hc.1, hc.2]
  subst hw hP hQ hX hY
  simp only [lo_pair, hi_pair]
  exact ⟨lanc_pay4 .., lanc_pay5 ..⟩

end Combine

/-- A constraint launch on equal arrays. -/
theorem constr_of {p₂ : Pay₂ Ideal} {p₃ : Pay₃ Ideal} {A₀ A B₀ B : Mat 2048 500} {Q₀ Q : FVec Ideal S2x500x2048 .bf16} {T₀ T : Mat 1 500}
    (hA : A₀ = A) (hB : B₀ = B) (hQ : Q₀ = Q) (hT : T₀ = T) : constr (F := Ideal) p₂ p₃ A₀ B₀ Q₀ T₀ = constr (F := Ideal) p₂ p₃ A B Q T := by
  rw [hA, hB, hQ, hT]

/-- An array with a leading unit axis is the array as a row. -/
theorem cast_row (s : FVec Ideal S500 .f32) : shapeCast S1x500 s shapeCasts_S500_S1x500 = row s := by
  funext i
  obtain ⟨a, c, rfl⟩ : ∃ (a : Fin 1) (c : Fin 500), i = ValueIdx.ix2 a c := ⟨_, _, ValueIdx.eq_ix2 i⟩
  refine shapeCast_apply (s := S500) (t := S1x500) _ _ _ (ValueIdx.ix1 c) ?_
  rw [Shape.rowMajor_val_one, Shape.rowMajor_val_two]
  show c.val = a.val * 500 + c.val
  omega

/-! ## The host's stretches -/

/-- The first layer's matrices, cast. -/
theorem host₁ : StableHlo.after hostOps0 W main_call0_v0 = W main_arg2 := by
  after_results
  rfl

/-- The imaginary matrix likewise. -/
theorem host₁' : StableHlo.after hostOps0 W main_call0_v1 = W main_arg3 := by
  after_results
  rfl

/-- The second's. -/
theorem host₂ : StableHlo.after hostOps3 W main_call0_v5 = W main_arg4 := by
  after_results
  rfl

/-- The imaginary matrix likewise. -/
theorem host₂' : StableHlo.after hostOps3 W main_call0_v6 = W main_arg5 := by
  after_results
  rfl

/-- The third's. -/
theorem host₃ : StableHlo.after hostOps6 W main_call0_v10 = W main_arg6 := by
  after_results
  rfl

/-- The imaginary matrix likewise. -/
theorem host₃' : StableHlo.after hostOps6 W main_call0_v11 = W main_arg7 := by
  after_results
  rfl

/-- The two transposes. -/
theorem host_q : StableHlo.after hostOps9 W main_call0_v21 = behind (W main_arg8) (W main_arg9) := by
  after_results
  rfl

/-- The first Lanczos layer's powers. -/
theorem host_t₄ : StableHlo.after hostOps9 W main_call0_v26 = shapeCast S1x500 (fifth (mulf (W main_arg10 : FVec Ideal S500 .f32) (W main_arg10 : FVec Ideal S500 .f32))) shapeCasts_S500_S1x500 := by
  after_results
  rfl

/-- The second's. -/
theorem host_t₅ : StableHlo.after hostOps9 W main_call0_v32 = shapeCast S1x500 (fifth (mulf (mulf (W main_arg10 : FVec Ideal S500 .f32) (W main_arg10 : FVec Ideal S500 .f32)) (mulf (W main_arg10 : FVec Ideal S500 .f32) (W main_arg10 : FVec Ideal S500 .f32)))) shapeCasts_S500_S1x500 := by
  after_results
  rfl

/-- The biases as a column. -/
theorem host_cb : StableHlo.after hostOps19 W main_call0_v43 = shapeCast S2x1 (W main_arg17 : FVec Ideal S2 .f32) shapeCasts_S2_S2x1 := by
  after_results
  rfl

/-- The result, with a leading unit axis. -/
theorem host_out : StableHlo.after hostOps20 W main_v0 = shapeCast S1x2x2048 (W main_call0_v44 : FVec Ideal S2x2048 .f32) shapeCasts_S2x2048_S1x2x2048 := by
  after_results
  rfl

/-! ## The layers -/

/-- The product launches' payloads. -/
theorem pair1 : k1_pay1 (F := Ideal) = k0_pay1 (F := Ideal) := rfl
/-- Launch 3's payload is launch 0's. -/
theorem pair3 : k3_pay1 (F := Ideal) = k0_pay1 (F := Ideal) := pair_eq fun _ _ _ => rfl
/-- Launch 4's payload is launch 0's. -/
theorem pair4 : k4_pay1 (F := Ideal) = k0_pay1 (F := Ideal) := pair_eq fun _ _ _ => rfl
/-- Launch 6's payload is launch 0's. -/
theorem pair6 : k6_pay1 (F := Ideal) = k0_pay1 (F := Ideal) := pair_eq fun _ _ _ => rfl
/-- Launch 7's payload is launch 0's. -/
theorem pair7 : k7_pay1 (F := Ideal) = k0_pay1 (F := Ideal) := pair_eq fun _ _ _ => rfl
/-- Launch 11's payload is launch 0's. -/
theorem pair11 : k11_pay1 (F := Ideal) = k0_pay1 (F := Ideal) := pair_eq fun _ _ _ => rfl
/-- Launch 12's payload is launch 0's. -/
theorem pair12 : k12_pay1 (F := Ideal) = k0_pay1 (F := Ideal) := pair_eq fun _ _ _ => rfl
/-- Launch 16's payload is launch 0's. -/
theorem pair16 : k16_pay1 (F := Ideal) = k0_pay1 (F := Ideal) := pair_eq fun _ _ _ => rfl
/-- Launch 17's payload is launch 0's. -/
theorem pair17 : k17_pay1 (F := Ideal) = k0_pay1 (F := Ideal) := pair_eq fun _ _ _ => rfl
/-- The combining launches'. -/
theorem comb5 : comb5r (F := Ideal) = comb2r (F := Ideal) ∧ comb5i (F := Ideal) = comb2i (F := Ideal) := comb_eq (fun _ _ _ _ _ _ _ => rfl) fun _ _ _ _ _ _ _ => rfl
/-- Launch 8 combines as launch 2 does. -/
theorem comb8 : comb8r (F := Ideal) = comb2r (F := Ideal) ∧ comb8i (F := Ideal) = comb2i (F := Ideal) := comb_eq (fun _ _ _ _ _ _ _ => rfl) fun _ _ _ _ _ _ _ => rfl
/-- Launch 18 combines as launch 13 does. -/
theorem comb18 : comb18r (F := Ideal) = comb13r (F := Ideal) ∧ comb18i (F := Ideal) = comb13i (F := Ideal) := ⟨rfl, rfl⟩

/-- The first Chebyshev layer. -/
theorem layer₁ : bd W 4 main_call0_v4_0 = (arrays W).re₁ ∧ bd W 4 main_call0_v4_1 = (arrays W).im₁ :=
  have hp := (bd_keep W main_call0_v2 2 1 (by decide)).trans ((step₁ W 1 main_call0_v2 _ rfl).trans (pair_of rfl (at_step W main_arg0 1 (by decide) (by decide)) (at_step W main_arg1 1 (by decide) (by decide)) (host₁ W)))
  have hq := (step₁ W 2 main_call0_v3 _ rfl).trans (pair_of pair1 (at_step W main_arg0 2 (by decide) (by decide)) (at_step W main_arg1 2 (by decide) (by decide)) ((bd_keep W main_call0_v1 1 1 (by decide)).trans (host₁' W)))
  have e := cheb_of ⟨rfl, rfl⟩ (at_step W main_arg11 3 (by decide) (by decide)) hp hq (at_step W main_arg0 3 (by decide) (by decide)) (at_step W main_arg1 3 (by decide) (by decide))
  have s := step₂ W 3 main_call0_v4_0 main_call0_v4_1 _ _ rfl (by decide)
  ⟨s.1.trans e.1, s.2.trans e.2⟩

/-- The second. -/
theorem layer₂ : bd W 8 main_call0_v9_0 = (arrays W).re₂ ∧ bd W 8 main_call0_v9_1 = (arrays W).im₂ :=
  have hp := (bd_keep W main_call0_v7 6 1 (by decide)).trans ((step₁ W 5 main_call0_v7 _ rfl).trans (pair_of pair3 ((bd_keep W main_call0_v4_0 4 1 (by decide)).trans (layer₁ W).1) ((bd_keep W main_call0_v4_1 4 1 (by decide)).trans (layer₁ W).2) ((host₂ (bd W 4)).trans (at_step W main_arg4 4 (by decide) (by decide)))))
  have hq := (step₁ W 6 main_call0_v8 _ rfl).trans (pair_of pair4 ((bd_keep W main_call0_v4_0 4 2 (by decide)).trans (layer₁ W).1) ((bd_keep W main_call0_v4_1 4 2 (by decide)).trans (layer₁ W).2) ((bd_keep W main_call0_v6 5 1 (by decide)).trans ((host₂' (bd W 4)).trans (at_step W main_arg5 4 (by decide) (by decide)))))
  have e := cheb_of comb5 (at_step W main_arg12 7 (by decide) (by decide)) hp hq ((bd_keep W main_call0_v4_0 4 3 (by decide)).trans (layer₁ W).1) ((bd_keep W main_call0_v4_1 4 3 (by decide)).trans (layer₁ W).2)
  have s := step₂ W 7 main_call0_v9_0 main_call0_v9_1 _ _ rfl (by decide)
  ⟨s.1.trans e.1, s.2.trans e.2⟩

/-- The third. -/
theorem layer₃ : bd W 12 main_call0_v14_0 = (arrays W).re₃ ∧ bd W 12 main_call0_v14_1 = (arrays W).im₃ :=
  have hp := (bd_keep W main_call0_v12 10 1 (by decide)).trans ((step₁ W 9 main_call0_v12 _ rfl).trans (pair_of pair6 ((bd_keep W main_call0_v9_0 8 1 (by decide)).trans (layer₂ W).1) ((bd_keep W main_call0_v9_1 8 1 (by decide)).trans (layer₂ W).2) ((host₃ (bd W 8)).trans (at_step W main_arg6 8 (by decide) (by decide)))))
  have hq := (step₁ W 10 main_call0_v13 _ rfl).trans (pair_of pair7 ((bd_keep W main_call0_v9_0 8 2 (by decide)).trans (layer₂ W).1) ((bd_keep W main_call0_v9_1 8 2 (by decide)).trans (layer₂ W).2) ((bd_keep W main_call0_v11 9 1 (by decide)).trans ((host₃' (bd W 8)).trans (at_step W main_arg7 8 (by decide) (by decide)))))
  have e := cheb_of comb8 (at_step W main_arg13 11 (by decide) (by decide)) hp hq ((bd_keep W main_call0_v9_0 8 3 (by decide)).trans (layer₂ W).1) ((bd_keep W main_call0_v9_1 8 3 (by decide)).trans (layer₂ W).2)
  have s := step₂ W 11 main_call0_v14_0 main_call0_v14_1 _ _ rfl (by decide)
  ⟨s.1.trans e.1, s.2.trans e.2⟩

/-- The filter of Lanczos layer ₄: its two halves as the constraint launches leave them. -/
theorem filt₄ : bd W 14 main_call0_v33 = filtRe (arrays W).q (arrays W).q' (arrays W).t₄
    ∧ bd W 15 main_call0_v34 = filtIm (arrays W).q (arrays W).q' (arrays W).t₄ :=
  ⟨(step₁ W 13 main_call0_v33 _ rfl).trans ((constr_of (at_step W main_arg8 13 (by decide) (by decide)) (at_step W main_arg9 13 (by decide) (by decide)) (((host_q (bd W 12)).trans (congrArg₂ behind (at_step W main_arg8 12 (by decide) (by decide)) (at_step W main_arg9 12 (by decide) (by decide))))) ((host_t₄ (bd W 12)).trans ((cast_row _).trans (congrArg (fun r : FVec Ideal S500 .f32 => row (fifth (mulf r r))) (at_step W main_arg10 12 (by decide) (by decide)))))).trans (constr_re _ _ _)),
   (step₁ W 14 main_call0_v34 _ rfl).trans ((constr_of (at_step W main_arg9 14 (by decide) (by decide)) (at_step W main_arg8 14 (by decide) (by decide)) ((bd_keep W main_call0_v21 13 1 (by decide)).trans (((host_q (bd W 12)).trans (congrArg₂ behind (at_step W main_arg8 12 (by decide) (by decide)) (at_step W main_arg9 12 (by decide) (by decide)))))) ((bd_keep W main_call0_v26 13 1 (by decide)).trans ((host_t₄ (bd W 12)).trans ((cast_row _).trans (congrArg (fun r : FVec Ideal S500 .f32 => row (fifth (mulf r r))) (at_step W main_arg10 12 (by decide) (by decide))))))).trans (constr_im _ _ _))⟩

/-- The first Lanczos layer. -/
theorem layer₄ : bd W 18 main_call0_v37_0 = (arrays W).re₄ ∧ bd W 18 main_call0_v37_1 = (arrays W).im₄ :=
  have hp := (bd_keep W main_call0_v35 16 1 (by decide)).trans ((step₁ W 15 main_call0_v35 _ rfl).trans (pair_of pair11 ((bd_keep W main_call0_v14_0 12 3 (by decide)).trans (layer₃ W).1) ((bd_keep W main_call0_v14_1 12 3 (by decide)).trans (layer₃ W).2) ((bd_keep W main_call0_v33 14 1 (by decide)).trans (filt₄ W).1)))
  have hq := (step₁ W 16 main_call0_v36 _ rfl).trans (pair_of pair12 ((bd_keep W main_call0_v14_0 12 4 (by decide)).trans (layer₃ W).1) ((bd_keep W main_call0_v14_1 12 4 (by decide)).trans (layer₃ W).2) ((bd_keep W main_call0_v34 15 1 (by decide)).trans (filt₄ W).2))
  have e := lanc_of ⟨rfl, rfl⟩ (at_step W main_arg14 17 (by decide) (by decide)) hp hq ((bd_keep W main_call0_v14_0 12 5 (by decide)).trans (layer₃ W).1) ((bd_keep W main_call0_v14_1 12 5 (by decide)).trans (layer₃ W).2)
  have s := step₂ W 17 main_call0_v37_0 main_call0_v37_1 _ _ rfl (by decide)
  ⟨s.1.trans e.1, s.2.trans e.2⟩

/-- The filter of Lanczos layer ₅: its two halves as the constraint launches leave them. -/
theorem filt₅ : bd W 19 main_call0_v38 = filtRe (arrays W).q (arrays W).q' (arrays W).t₅
    ∧ bd W 20 main_call0_v39 = filtIm (arrays W).q (arrays W).q' (arrays W).t₅ :=
  ⟨(step₁ W 18 main_call0_v38 _ rfl).trans ((constr_of (at_step W main_arg8 18 (by decide) (by decide)) (at_step W main_arg9 18 (by decide) (by decide)) ((bd_keep W main_call0_v21 13 5 (by decide)).trans (((host_q (bd W 12)).trans (congrArg₂ behind (at_step W main_arg8 12 (by decide) (by decide)) (at_step W main_arg9 12 (by decide) (by decide)))))) ((bd_keep W main_call0_v32 13 5 (by decide)).trans ((host_t₅ (bd W 12)).trans ((cast_row _).trans (congrArg (fun r : FVec Ideal S500 .f32 => row (fifth (mulf (mulf r r) (mulf r r)))) (at_step W main_arg10 12 (by decide) (by decide))))))).trans (constr_re _ _ _)),
   (step₁ W 19 main_call0_v39 _ rfl).trans ((constr_of (at_step W main_arg9 19 (by decide) (by decide)) (at_step W main_arg8 19 (by decide) (by decide)) ((bd_keep W main_call0_v21 13 6 (by decide)).trans (((host_q (bd W 12)).trans (congrArg₂ behind (at_step W main_arg8 12 (by decide) (by decide)) (at_step W main_arg9 12 (by decide) (by decide)))))) ((bd_keep W main_call0_v32 13 6 (by decide)).trans ((host_t₅ (bd W 12)).trans ((cast_row _).trans (congrArg (fun r : FVec Ideal S500 .f32 => row (fifth (mulf (mulf r r) (mulf r r)))) (at_step W main_arg10 12 (by decide) (by decide))))))).trans (constr_im _ _ _))⟩

/-- The second. -/
theorem layer₅ : bd W 23 main_call0_v42_0 = (arrays W).re₅ ∧ bd W 23 main_call0_v42_1 = (arrays W).im₅ :=
  have hp := (bd_keep W main_call0_v40 21 1 (by decide)).trans ((step₁ W 20 main_call0_v40 _ rfl).trans (pair_of pair16 ((bd_keep W main_call0_v37_0 18 2 (by decide)).trans (layer₄ W).1) ((bd_keep W main_call0_v37_1 18 2 (by decide)).trans (layer₄ W).2) ((bd_keep W main_call0_v38 19 1 (by decide)).trans (filt₅ W).1)))
  have hq := (step₁ W 21 main_call0_v41 _ rfl).trans (pair_of pair17 ((bd_keep W main_call0_v37_0 18 3 (by decide)).trans (layer₄ W).1) ((bd_keep W main_call0_v37_1 18 3 (by decide)).trans (layer₄ W).2) ((bd_keep W main_call0_v39 20 1 (by decide)).trans (filt₅ W).2))
  have e := lanc_of comb18 (at_step W main_arg15 22 (by decide) (by decide)) hp hq ((bd_keep W main_call0_v37_0 18 4 (by decide)).trans (layer₄ W).1) ((bd_keep W main_call0_v37_1 18 4 (by decide)).trans (layer₄ W).2)
  have s := step₂ W 22 main_call0_v42_0 main_call0_v42_1 _ _ rfl (by decide)
  ⟨s.1.trans e.1, s.2.trans e.2⟩

/-- The head on equal arrays. -/
theorem head_of {X₀ X Y₀ Y : Mat 2048 128} {c₀ c : Mat 2 256} {d₀ d : Mat 2 1} (hX : X₀ = X) (hY : Y₀ = Y) (hc : c₀ = c) (hd : d₀ = d) :
    k19_pay1 (F := Ideal) X₀ Y₀ c₀ d₀ = k19_pay1 (F := Ideal) X Y c d := by rw [hX, hY, hc, hd]

/-- The program's result is the network's. -/
theorem result_at : bd W 26 main_v0 = (arrays W).result := by
  refine (host_out (bd W 25)).trans ?_
  have e := (step₁ W 24 main_call0_v44 _ rfl).trans (head_of ((bd_keep W main_call0_v42_0 23 1 (by decide)).trans (layer₅ W).1) ((bd_keep W main_call0_v42_1 23 1 (by decide)).trans (layer₅ W).2) (at_step W main_arg16 24 (by decide) (by decide))
    ((host_cb (bd W 23)).trans (congrArg (fun d : FVec Ideal S2 .f32 => shapeCast S2x1 d shapeCasts_S2_S2x1) (at_step W main_arg17 23 (by decide) (by decide)))))
  funext i
  obtain ⟨z, q, a, rfl⟩ : ∃ (z : Fin 1) (q : Fin 2) (a : Fin 2048), i = ValueIdx.ix3 z q a := ⟨_, _, _, ValueIdx.eq_ix3 i⟩
  have h : (S2x2048.rowMajor (ValueIdx.ix2 q a)).val = (S1x2x2048.rowMajor (ValueIdx.ix3 z q a)).val := by
    rw [Shape.rowMajor_val_two, Shape.rowMajor_val_three]
    show q.val * 2048 + a.val = (z.val * 2 + q.val) * 2048 + a.val
    omega
  refine (shapeCast_apply (s := S2x2048) (t := S1x2x2048) _ _ _ _ h).trans ((congrFun e _).trans ?_)
  exact head_apply _ _ _ _ q a

end Cert.KernelIdeal.Value

end
-- ==== Proof.Ref.lean ====
/- The reference's result: the network of the launch's arrays. -/
module

public import proofs.«01_k».proof.Proof.Net
public import proofs.«01_k».proof.Proof.Gen.ReferenceIdeal.Run

@[expose] public section

set_option maxRecDepth 16384

noncomputable section

namespace Cert.ReferenceIdeal.Value

open Cert.ReferenceIdeal.Gen Idealize.ShloMosaic Idealize.ShloMosaic.TcCoe
open Idealize.ShloMosaic.ValueIdx (idx2_lt1)
open Cert.KernelIdeal.Value (Mat mul mul_apply mask re im chebRe chebIm lancRe lancIm scale tr gram filtRe filtIm logit peak logSoft Arrays fifth row)

variable (V : Valuation τ sig (Elt Ideal))

/-- The launch's arrays. -/
def arrays : Arrays where
  x := V main_arg0
  y := V main_arg1
  l₁ := V main_arg2
  l₁' := V main_arg3
  l₂ := V main_arg4
  l₂' := V main_arg5
  l₃ := V main_arg6
  l₃' := V main_arg7
  q := V main_arg8
  q' := V main_arg9
  ritz := V main_arg10
  w₁ := V main_arg11
  w₂ := V main_arg12
  w₃ := V main_arg13
  w₄ := V main_arg14
  w₅ := V main_arg15
  cw := V main_arg16
  cb := V main_arg17

/-! ## The Chebyshev layers -/

/-- The first layer, as the reference spells it. -/
theorem re₁_eq : res_main_v15 V = (arrays V).re₁ := rfl
/-- Its imaginary half. -/
theorem im₁_eq : res_main_v16 V = (arrays V).im₁ := rfl
/-- The second. -/
theorem re₂_eq : res_main_v32 V = (arrays V).re₂ := by
  unfold res_main_v32 res_main_v31 res_main_v27
  rw [re₁_eq, im₁_eq]
  rfl
/-- Its imaginary half. -/
theorem im₂_eq : res_main_v33 V = (arrays V).im₂ := by
  unfold res_main_v33 res_main_v31 res_main_v27
  rw [re₁_eq, im₁_eq]
  rfl
/-- The third. -/
theorem re₃_eq : res_main_v49 V = (arrays V).re₃ := by
  unfold res_main_v49 res_main_v48 res_main_v44
  rw [re₂_eq, im₂_eq]
  rfl
/-- Its imaginary half. -/
theorem im₃_eq : res_main_v50 V = (arrays V).im₃ := by
  unfold res_main_v50 res_main_v48 res_main_v44
  rw [re₂_eq, im₂_eq]
  rfl

/-! ## The Lanczos layers -/

/-- Columns scaled, as the reference spells it. -/
theorem scale_eq (A : Mat 2048 500) (s : FVec Ideal S500 .f32) :
    mulf A (broadcastInDim S2048x500 ![0, 1] bcast_S1x500_S2048x500_0_1 (broadcastInDim S1x500 ![1] bcast_S500_S1x500_1 s)) = scale A (row s) := by
  funext i
  obtain ⟨a, c, rfl⟩ : ∃ (a : Fin 2048) (c : Fin 500), i = ValueIdx.ix2 a c := ⟨_, _, ValueIdx.eq_ix2 i⟩
  refine congrArg (A (ValueIdx.ix2 a c) * ·) ?_
  refine (broadcastInDim_apply (s := S1x500) (t := S2048x500) _ _ _ _ (ValueIdx.ix2 0 c) (Fin.forall_fin_two.mpr ⟨rfl, rfl⟩)).trans ?_
  exact broadcastInDim_apply (s := S500) (t := S1x500) _ _ _ _ (ValueIdx.ix1 c) (Fin.forall_fin_one.mpr rfl)

/-- The scaled matrices of the first layer. -/
theorem q₄_eq : res_main_v57 V = scale (arrays V).q (arrays V).t₄ := scale_eq _ _
/-- The imaginary one. -/
theorem q₄'_eq : res_main_v60 V = scale (arrays V).q' (arrays V).t₄ := scale_eq _ _
/-- Of the second. -/
theorem q₅_eq : res_main_v95 V = scale (arrays V).q (arrays V).t₅ := scale_eq _ _
/-- The imaginary one. -/
theorem q₅'_eq : res_main_v98 V = scale (arrays V).q' (arrays V).t₅ := scale_eq _ _

/-- The first layer's filter. -/
theorem filtRe₄_eq : res_main_v65 V = filtRe (arrays V).q (arrays V).q' (arrays V).t₄ := by
  unfold res_main_v65
  rw [q₄_eq, q₄'_eq]
  rfl
/-- Its imaginary part. -/
theorem filtIm₄_eq : res_main_v70 V = filtIm (arrays V).q (arrays V).q' (arrays V).t₄ := by
  unfold res_main_v70
  rw [q₄_eq, q₄'_eq]
  rfl
/-- The second's. -/
theorem filtRe₅_eq : res_main_v103 V = filtRe (arrays V).q (arrays V).q' (arrays V).t₅ := by
  unfold res_main_v103
  rw [q₅_eq, q₅'_eq]
  rfl
/-- Its imaginary part. -/
theorem filtIm₅_eq : res_main_v108 V = filtIm (arrays V).q (arrays V).q' (arrays V).t₅ := by
  unfold res_main_v108
  rw [q₅_eq, q₅'_eq]
  rfl

/-- The first layer. -/
theorem re₄_eq : res_main_v86 V = (arrays V).re₄ := by
  unfold res_main_v86 res_main_v83 res_main_v75
  rw [re₃_eq, im₃_eq, filtRe₄_eq, filtIm₄_eq]
  rfl
/-- Its imaginary half. -/
theorem im₄_eq : res_main_v87 V = (arrays V).im₄ := by
  unfold res_main_v87 res_main_v83 res_main_v75
  rw [re₃_eq, im₃_eq, filtRe₄_eq, filtIm₄_eq]
  rfl

/-! ## The head -/

/-- The two channels of a pair of halves, as the reference spells them. -/
def chan (cw : Mat 2 256) (cb : FVec Ideal S2 .f32) (Xr Xi : Mat 2048 128) : Mat 2048 2 :=
  addf (Host.dotGeneral dot_S2048x256_S256x2_S2048x2_1_0_0_1_n_n none
      (concatenate S2048x256 1 [⟨S2048x128, Xr⟩, ⟨S2048x128, Xi⟩] concatenates_S2048x128_S2048x128_S2048x256_d1)
      (transpose S256x2 [1, 0] cw transposes_S2x256_S256x2_1_0))
    (broadcastInDim S2048x2 ![0, 1] bcast_S1x2_S2048x2_0_1 (broadcastInDim S1x2 ![1] bcast_S2_S1x2_1 cb))

/-- The transposed weights read at an entry. -/
theorem weight_apply (cw : Mat 2 256) (c : Fin 256) (q : Fin 2) :
    transpose S256x2 [1, 0] cw transposes_S2x256_S256x2_1_0 (ValueIdx.ix2 c q) = cw (ValueIdx.ix2 q c) :=
  transpose_apply (s := S2x256) (t := S256x2) _ cw _ _ _ (Fin.forall_fin_two.mpr ⟨rfl, rfl⟩)

/-- A channel read at a node. -/
theorem chan_apply (cw : Mat 2 256) (cb : FVec Ideal S2 .f32) (Xr Xi : Mat 2048 128) (q : Fin 2) (a : Fin 2048) :
    chan cw cb Xr Xi (ValueIdx.ix2 a q) = logit cw cb Xr Xi q a := by
  refine congrArg₂ (· + ·) ?_ ?_
  · refine (mul_apply (m := 2048) (k := 256) (n := 2) _ _ a q).trans ?_
    refine (Fin.sum_univ_add (a := 128) (b := 128) _).trans ?_
    refine congrArg₂ (· + ·) (Finset.sum_congr rfl fun c _ => ?_) (Finset.sum_congr rfl fun c _ => ?_)
    · rw [mul_comm]
      refine congrArg₂ (· * ·) (weight_apply cw ⟨c.val, by omega⟩ q) ?_
      exact concatenate_pair_apply_left (t := S2048x256) (s₁ := S2048x128) (s₂ := S2048x128) 1 Xr Xi _ (ValueIdx.ix2 a ⟨c.val, by omega⟩) rfl
        (ValueIdx.ix2 a c) (Fin.forall_fin_two.mpr ⟨rfl, rfl⟩)
    · rw [mul_comm]
      refine congrArg₂ (· * ·) (weight_apply cw ⟨128 + c.val, by omega⟩ q) ?_
      exact concatenate_pair_apply_right (t := S2048x256) (s₁ := S2048x128) (s₂ := S2048x128) 1 Xr Xi _ (ValueIdx.ix2 a ⟨128 + c.val, by omega⟩) rfl rfl
        (ValueIdx.ix2 a c) (Fin.forall_fin_two.mpr ⟨fun _ => rfl, fun h => absurd rfl h⟩) (Nat.add_comm _ _)
  · refine (broadcastInDim_apply (s := S1x2) (t := S2048x2) _ _ _ _ (ValueIdx.ix2 0 q) (Fin.forall_fin_two.mpr ⟨rfl, rfl⟩)).trans ?_
    exact broadcastInDim_apply (s := S2) (t := S1x2) _ _ _ _ (ValueIdx.ix1 q) (Fin.forall_fin_one.mpr rfl)

/-- The channels reduced, one value a node. -/
theorem reduces : S2048x2.Reduces [1] S2048 := by decide

/-- The index the reduction over the channels reads. -/
theorem lift_chan (a : Fin 2048) (q : Fin 2) : reduces.lift (ValueIdx.ix1 a) q = ValueIdx.ix2 a q :=
  funext (Fin.forall_fin_two.mpr ⟨rfl, rfl⟩)

/-- A column beside itself, as the reference spells it. -/
def beside (r : FVec Ideal S2048x1 .f32) : Mat 2048 2 := broadcastInDim S2048x2 ![0, 1] bcast_S2048x1_S2048x2_0_1 r
/-- An array as a column. -/
def col (r : FVec Ideal S2048 .f32) : FVec Ideal S2048x1 .f32 := broadcastInDim S2048x1 ![0] bcast_S2048_S2048x1_0 r

/-- A column beside itself read at an entry. -/
theorem beside_apply (r : FVec Ideal S2048x1 .f32) (a : Fin 2048) (q : Fin 2) : beside r (ValueIdx.ix2 a q) = r (ValueIdx.ix2 a 0) :=
  broadcastInDim_apply (s := S2048x1) (t := S2048x2) _ _ _ _ _ (Fin.forall_fin_two.mpr ⟨rfl, rfl⟩)

/-- A column read at an entry. -/
theorem col_apply (r : FVec Ideal S2048 .f32) (a : Fin 2048) : col r (ValueIdx.ix2 a 0) = r (ValueIdx.ix1 a) :=
  broadcastInDim_apply (s := S2048) (t := S2048x1) _ _ _ _ _ (Fin.forall_fin_one.mpr rfl)

/-- The channels less the larger. -/
def shifted (v : Mat 2048 2) : Mat 2048 2 :=
  subf v (beside (col (maximumf (broadcastInDim S2048 ![] bcast_S_S2048 (constant S_ .f32 0xFF800000#32))
    (Host.reduce FloatOps.maximumf v (constant S_ .f32 0xFF800000#32) reducesTo_S2048x2_S2048_d1 h_S_))))

/-- The reference's softmax of the channels. -/
def soft (v : Mat 2048 2) : Mat 2048 2 :=
  subf (shifted v) (beside (Host.log (col (Host.reduceAdd (Host.exp (shifted v)) (constant S_ .f32 0x00000000#32) reducesTo_S2048x2_S2048_d1 h_S_))))

/-- A node's larger channel, taken once more against the least number. -/
theorem peak_eq (v : Mat 2048 2) (a : Fin 2048) :
    maximumf (broadcastInDim S2048 ![] bcast_S_S2048 (constant S_ .f32 0xFF800000#32))
      (Host.reduce FloatOps.maximumf v (constant S_ .f32 0xFF800000#32) reducesTo_S2048x2_S2048_d1 h_S_) (ValueIdx.ix1 a)
      = peak (fun q a => v (ValueIdx.ix2 a q)) a := by
  have e : Host.reduce FloatOps.maximumf v (constant S_ .f32 0xFF800000#32) reducesTo_S2048x2_S2048_d1 h_S_ (ValueIdx.ix1 a)
      = peak (fun q a => v (ValueIdx.ix2 a q)) a := by
    refine (congrFun (hostReduce_maximumf_eq_multiReduction v 0xFF800000#32 _ _ reduces (.inl rfl) rfl) _).trans ?_
    refine (Ideal.multiReduction_maximumf_single v _ reduces _ _ _).trans ?_
    exact congrArg (fun f : Fin 2 → EReal => (Finset.univ : Finset (Fin 2)).fold max (Ideal.ofBits .f32 0xFF800000#32) f)
      (funext fun q' => congrArg v (lift_chan a q'))
  refine (congrArg (max (Ideal.ofBits .f32 0xFF800000#32)) e).trans (max_eq_right ?_)
  exact (Finset.le_fold_max _).mpr (Or.inl le_rfl)

/-- The shifted channels, read at an entry. -/
theorem shifted_apply (v : Mat 2048 2) (q : Fin 2) (a : Fin 2048) :
    shifted v (ValueIdx.ix2 a q) = v (ValueIdx.ix2 a q) - peak (fun q a => v (ValueIdx.ix2 a q)) a := by
  refine congrArg (v (ValueIdx.ix2 a q) - ·) ?_
  rw [beside_apply, col_apply]
  exact peak_eq v a

/-- The reference's softmax read at an entry. -/
theorem soft_apply (v : Mat 2048 2) (q : Fin 2) (a : Fin 2048) :
    soft v (ValueIdx.ix2 a q) = logSoft (fun q a => v (ValueIdx.ix2 a q)) q a := by
  refine congrArg₂ (· - ·) (shifted_apply v q a) ?_
  refine (beside_apply _ a q).trans (congrArg Ideal.log ?_)
  rw [col_apply]
  refine (congrFun (multiReduction_add_eq_hostReduceAdd (Host.exp (shifted v)) 0x00000000#32 reduces (.inl rfl) rfl _ _ h_S_ ?_).symm _).trans ?_
  · exact IdealRules.sign_bit.ideal_zero .f32
  refine (Ideal.multiReduction_add_single _ _ reduces _ _ _).trans (Finset.sum_congr rfl fun q' _ => ?_)
  exact congrArg Ideal.exp ((congrArg (shifted v) (lift_chan a q')).trans (shifted_apply v q' a))

/-- The channels of the last layer. -/
theorem chan_eq : res_main_v131 V = chan (arrays V).cw (arrays V).cb (arrays V).re₅ (arrays V).im₅ := by
  unfold res_main_v131 res_main_v121 res_main_v113
  rw [re₄_eq, im₄_eq, filtRe₅_eq, filtIm₅_eq]
  rfl

/-- The reference's result is the network's. -/
theorem result_eq : broadcastInDim S1x2x2048 ![1, 2] bcast_S2x2048_S1x2x2048_1_2 (transpose S2x2048 [1, 0]
      (subf (res_main_call0_v5 V) (broadcastInDim S2048x2 ![0, 1] bcast_S2048x1_S2048x2_0_1 (Host.log (broadcastInDim S2048x1 ![0] bcast_S2048_S2048x1_0
        (Host.reduceAdd (Host.exp (res_main_call0_v5 V)) (constant S_ .f32 0x00000000#32) reducesTo_S2048x2_S2048_d1 h_S_)))))
      transposes_S2048x2_S2x2048_1_0)
    = (arrays V).result := by
  have h : res_main_call0_v5 V = shifted (chan (arrays V).cw (arrays V).cb (arrays V).re₅ (arrays V).im₅) := by
    unfold res_main_call0_v5
    rw [chan_eq]
    rfl
  rw [h]
  funext i
  obtain ⟨z, q, a, rfl⟩ : ∃ (z : Fin 1) (q : Fin 2) (a : Fin 2048), i = ValueIdx.ix3 z q a := ⟨_, _, _, ValueIdx.eq_ix3 i⟩
  refine (broadcastInDim_apply (s := S2x2048) (t := S1x2x2048) _ _ _ _ (ValueIdx.ix2 q a) (Fin.forall_fin_two.mpr ⟨rfl, rfl⟩)).trans ?_
  refine (transpose_apply (s := S2048x2) (t := S2x2048) _ _ _ _ (ValueIdx.ix2 a q) (Fin.forall_fin_two.mpr ⟨rfl, rfl⟩)).trans ?_
  refine (soft_apply _ q a).trans ?_
  exact congrArg (logSoft · q a) (funext fun q => funext fun a => chan_apply _ _ _ _ q a)

end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Track
public import proofs.«01_k».proof.Proof.Ref

@[expose] public section

noncomputable section

namespace Cert.Proof

open Idealize.ShloMosaic Idealize.SL.Sem

/-- The kernel's frame. -/
theorem frame_kernel : @Cert.quiescent_Kernel Cert.Kernel.Gen.facts :=
  KernelIdeal.Value.quiet_bits.mpr KernelIdeal.Value.quiet

/-- The idealized kernel's frame. -/
theorem frame_ideal : @Cert.quiescent_KernelIdeal Cert.KernelIdeal.Gen.facts :=
  KernelIdeal.Value.quiet_ideal.mpr KernelIdeal.Value.quiet

/-- The reference's frame: its run, and it has no counters. -/
theorem frame_reference : @Cert.quiescent_ReferenceIdeal Cert.ReferenceIdeal.Gen.facts := by
  intro m g _
  exact (θ_run Cert.ReferenceIdeal.defs _ _).mono (fun r h => ⟨fun c => (h c).2, sem_eq_zero_of_no_sems (by decide) r.2⟩)
    (Cert.ReferenceIdeal.Value.run (F := Ideal) m g)

/-- The idealized kernel and the reference, launched on equal arguments, leave the same array: the network's result. -/
theorem algebraic : @Cert.algebraic_KernelIdeal_ReferenceIdeal Cert.KernelIdeal.Gen.facts Cert.ReferenceIdeal.Gen.facts := by
  intro m g m' g' _ hargs
  refine ⟨fun c => (Cert.KernelIdeal.Value.arrays (Cert.KernelIdeal.Value.start m c)).result, ?_, ?_⟩
  · refine (θ_run Cert.KernelIdeal.defs _ _).mono (fun r h c => ?_) (Cert.KernelIdeal.Value.run (F := Ideal) m g)
    refine ⟨(h.1 c Cert.KernelIdeal.main_v0 (by decide)).trans (Cert.KernelIdeal.Value.result_at _), ?_⟩
    have a : ∀ b : Ref Cert.KernelIdeal.sig .tc, ¬ (Proc.devRef .tc b : DevRef Cert.KernelIdeal.τ Cert.KernelIdeal.sig).isScoped →
        (∀ i < 26, b ∉ Cert.KernelIdeal.Value.stepW i) →
        r.2.mem ((c.tc : Thread Cert.KernelIdeal.nD Cert.KernelIdeal.τ).loc b) = m ((c.tc : Thread Cert.KernelIdeal.nD Cert.KernelIdeal.τ).loc b) :=
      fun b hb hw => (h.1 c b hb).trans (Cert.KernelIdeal.Value.unwritten m c b hw)
    and_intros <;> exact a _ (by decide) (by decide)
  · refine (θ_run Cert.ReferenceIdeal.defs _ _).mono (fun r h c => ⟨?_, (h c).2⟩) (Cert.ReferenceIdeal.Value.run (F := Ideal) m' g')
    refine (h c).1.trans ((Cert.ReferenceIdeal.Value.result_eq _).trans ?_)
    exact congrArg Cert.KernelIdeal.Value.Arrays.result ((Cert.KernelIdeal.Value.Arrays.mk.injEq ..).mpr (hargs c))

/-- Everything the certificate claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
